-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S32x512x258 : Shape := ⟨3, ![32, 512, 258]⟩
abbrev S32x512x256 : Shape := ⟨3, ![32, 512, 256]⟩
abbrev S642x256 : Shape := ⟨2, ![642, 256]⟩
abbrev S256 : Shape := ⟨1, ![256]⟩
abbrev S642x424 : Shape := ⟨2, ![642, 424]⟩
abbrev S424 : Shape := ⟨1, ![424]⟩
abbrev S_ : Shape := ⟨0, ![]⟩

class Facts : Prop where
  bcast_S_S32x512x258 : S_.BroadcastsInDim S32x512x258 (![] : Fin 0 → Fin S32x512x258.rank)
  bcast_S_S642x256 : S_.BroadcastsInDim S642x256 (![] : Fin 0 → Fin S642x256.rank)
  bcast_S_S642x424 : S_.BroadcastsInDim S642x424 (![] : Fin 0 → Fin S642x424.rank)
  bcast_S_S424 : S_.BroadcastsInDim S424 (![] : Fin 0 → Fin S424.rank)

variable [Facts]

def fn {F : FTy → Type} [FloatOps F] (main_arg0 : FVec F S32x512x258 .f32) (main_arg1 : FVec F S32x512x256 .f32) (main_arg2 : FVec F S642x256 .f32) (main_arg3 : FVec F S256 .f32) (main_arg4 : FVec F S642x256 .f32) (main_arg5 : FVec F S256 .f32) (main_arg6 : FVec F S642x424 .f32) (main_arg7 : FVec F S424 .f32) : IVec S32x512x258 1 × IVec S642x256 1 × IVec S642x256 1 × IVec S642x424 1 × IVec S424 1 :=
  let main_v0 : FVec F S32x512x258 .f32 := Host.absf main_arg0
  let main_cst : FVec F S_ .f32 := constant S_ .f32 0x7F800000#32
  let main_v1 : FVec F S32x512x258 .f32 := broadcastInDim S32x512x258 ![] bcast_S_S32x512x258 main_cst
  let main_v2 : IVec S32x512x258 1 := cmpf .olt main_v0 main_v1
  let main_v3 : FVec F S642x256 .f32 := Host.absf main_arg2
  let main_cst_0 : FVec F S_ .f32 := constant S_ .f32 0x7F800000#32
  let main_v4 : FVec F S642x256 .f32 := broadcastInDim S642x256 ![] bcast_S_S642x256 main_cst_0
  let main_v5 : IVec S642x256 1 := cmpf .olt main_v3 main_v4
  let main_v6 : FVec F S642x256 .f32 := Host.absf main_arg4
  let main_cst_1 : FVec F S_ .f32 := constant S_ .f32 0x7F800000#32
  let main_v7 : FVec F S642x256 .f32 := broadcastInDim S642x256 ![] bcast_S_S642x256 main_cst_1
  let main_v8 : IVec S642x256 1 := cmpf .olt main_v6 main_v7
  let main_v9 : FVec F S642x424 .f32 := Host.absf main_arg6
  let main_cst_2 : FVec F S_ .f32 := constant S_ .f32 0x7F800000#32
  let main_v10 : FVec F S642x424 .f32 := broadcastInDim S642x424 ![] bcast_S_S642x424 main_cst_2
  let main_v11 : IVec S642x424 1 := cmpf .olt main_v9 main_v10
  let main_v12 : FVec F S424 .f32 := Host.absf main_arg7
  let main_cst_3 : FVec F S_ .f32 := constant S_ .f32 0x7F800000#32
  let main_v13 : FVec F S424 .f32 := broadcastInDim S424 ![] bcast_S_S424 main_cst_3
  let main_v14 : IVec S424 1 := cmpf .olt main_v12 main_v13
  (main_v2, main_v5, main_v8, main_v11, main_v14)
-- ==== Kernel.lean ====
abbrev S32x512x258 : Shape := ⟨3, ![32, 512, 258]⟩
abbrev S32x512x256 : Shape := ⟨3, ![32, 512, 256]⟩
abbrev S642x256 : Shape := ⟨2, ![642, 256]⟩
abbrev S256 : Shape := ⟨1, ![256]⟩
abbrev S642x424 : Shape := ⟨2, ![642, 424]⟩
abbrev S424 : Shape := ⟨1, ![424]⟩
abbrev S642x4x106 : Shape := ⟨3, ![642, 4, 106]⟩
abbrev S4x106 : Shape := ⟨2, ![4, 106]⟩
abbrev S_ : Shape := ⟨0, ![]⟩
abbrev S642x88 : Shape := ⟨2, ![642, 88]⟩
abbrev S642x4x3 : Shape := ⟨3, ![642, 4, 3]⟩
abbrev S642x3x4 : Shape := ⟨3, ![642, 3, 4]⟩
abbrev S642x12 : Shape := ⟨2, ![642, 12]⟩
abbrev S642x4x1 : Shape := ⟨3, ![642, 4, 1]⟩
abbrev S642x4 : Shape := ⟨2, ![642, 4]⟩
abbrev S642x4x32 : Shape := ⟨3, ![642, 4, 32]⟩
abbrev S642x128 : Shape := ⟨2, ![642, 128]⟩
abbrev S642x1024 : Shape := ⟨2, ![642, 1024]⟩
abbrev S4x3 : Shape := ⟨2, ![4, 3]⟩
abbrev S3x4 : Shape := ⟨2, ![3, 4]⟩
abbrev S12 : Shape := ⟨1, ![12]⟩
abbrev S4x1 : Shape := ⟨2, ![4, 1]⟩
abbrev S4 : Shape := ⟨1, ![4]⟩
abbrev S88 : Shape := ⟨1, ![88]⟩
abbrev S4x32 : Shape := ⟨2, ![4, 32]⟩
abbrev S128 : Shape := ⟨1, ![128]⟩
abbrev S1024 : Shape := ⟨1, ![1024]⟩
abbrev S1x1024 : Shape := ⟨2, ![1, 1024]⟩
abbrev S258x1024 : Shape := ⟨2, ![258, 1024]⟩
abbrev S256x1024 : Shape := ⟨2, ![256, 1024]⟩
abbrev S128x1024 : Shape := ⟨2, ![128, 1024]⟩
abbrev S512x32x258 : Shape := ⟨3, ![512, 32, 258]⟩
abbrev S512x32x256 : Shape := ⟨3, ![512, 32, 256]⟩
abbrev S1x32x258 : Shape := ⟨3, ![1, 32, 258]⟩
abbrev S1x32x256 : Shape := ⟨3, ![1, 32, 256]⟩
abbrev S32x256 : Shape := ⟨2, ![32, 256]⟩
abbrev S32x4x512 : Shape := ⟨3, ![32, 4, 512]⟩
abbrev S32x32x512 : Shape := ⟨3, ![32, 32, 512]⟩
abbrev S32x4x32 : Shape := ⟨3, ![32, 4, 32]⟩
abbrev S32x128 : Shape := ⟨2, ![32, 128]⟩
abbrev S32x258 : Shape := ⟨2, ![32, 258]⟩
abbrev S32x1024 : Shape := ⟨2, ![32, 1024]⟩
abbrev S32x4 : Shape := ⟨2, ![32, 4]⟩
abbrev S32x4x1 : Shape := ⟨3, ![32, 4, 1]⟩
abbrev S32x32x4 : Shape := ⟨3, ![32, 32, 4]⟩
abbrev S32x1x512 : Shape := ⟨3, ![32, 1, 512]⟩
abbrev S32x32x1 : Shape := ⟨3, ![32, 32, 1]⟩
abbrev S32x512 : Shape := ⟨2, ![32, 512]⟩
abbrev S32x4x511 : Shape := ⟨3, ![32, 4, 511]⟩

abbrev nBuf : Space → Nat
  | .hbm => 70
  | .vmem => 15
  | .smem => 0
  | _ => 0

abbrev bufTy : (tb : Table) → Fin (tcTables nBuf tb) → BufTy
  | .hbm, ⟨0, _⟩ => ⟨S32x512x258, .f32⟩
  | .hbm, ⟨1, _⟩ => ⟨S32x512x256, .f32⟩
  | .hbm, ⟨2, _⟩ => ⟨S642x256, .f32⟩
  | .hbm, ⟨3, _⟩ => ⟨S256, .f32⟩
  | .hbm, ⟨4, _⟩ => ⟨S642x256, .f32⟩
  | .hbm, ⟨5, _⟩ => ⟨S256, .f32⟩
  | .hbm, ⟨6, _⟩ => ⟨S642x424, .f32⟩
  | .hbm, ⟨7, _⟩ => ⟨S424, .f32⟩
  | .hbm, ⟨8, _⟩ => ⟨S642x4x106, .f32⟩
  | .hbm, ⟨9, _⟩ => ⟨S4x106, .f32⟩
  | .hbm, ⟨10, _⟩ => ⟨S_, .f32⟩
  | .hbm, ⟨11, _⟩ => ⟨S642x88, .f32⟩
  | .hbm, ⟨12, _⟩ => ⟨S642x4x3, .f32⟩
  | .hbm, ⟨13, _⟩ => ⟨S642x3x4, .f32⟩
  | .hbm, ⟨14, _⟩ => ⟨S642x12, .f32⟩
  | .hbm, ⟨15, _⟩ => ⟨S642x4x1, .f32⟩
  | .hbm, ⟨16, _⟩ => ⟨S642x4, .f32⟩
  | .hbm, ⟨17, _⟩ => ⟨S642x4x3, .f32⟩
  | .hbm, ⟨18, _⟩ => ⟨S642x3x4, .f32⟩
  | .hbm, ⟨19, _⟩ => ⟨S642x12, .f32⟩
  | .hbm, ⟨20, _⟩ => ⟨S642x4x1, .f32⟩
  | .hbm, ⟨21, _⟩ => ⟨S642x4, .f32⟩
  | .hbm, ⟨22, _⟩ => ⟨S642x4x1, .f32⟩
  | .hbm, ⟨23, _⟩ => ⟨S642x4, .f32⟩
  | .hbm, ⟨24, _⟩ => ⟨S642x4x1, .f32⟩
  | .hbm, ⟨25, _⟩ => ⟨S642x4, .f32⟩
  | .hbm, ⟨26, _⟩ => ⟨S642x4x32, .f32⟩
  | .hbm, ⟨27, _⟩ => ⟨S642x128, .f32⟩
  | .hbm, ⟨28, _⟩ => ⟨S642x4x32, .f32⟩
  | .hbm, ⟨29, _⟩ => ⟨S642x128, .f32⟩
  | .hbm, ⟨30, _⟩ => ⟨S642x4x32, .f32⟩
  | .hbm, ⟨31, _⟩ => ⟨S642x128, .f32⟩
  | .hbm, ⟨32, _⟩ => ⟨S642x1024, .f32⟩
  | .hbm, ⟨33, _⟩ => ⟨S4x3, .f32⟩
  | .hbm, ⟨34, _⟩ => ⟨S3x4, .f32⟩
  | .hbm, ⟨35, _⟩ => ⟨S12, .f32⟩
  | .hbm, ⟨36, _⟩ => ⟨S4x1, .f32⟩
  | .hbm, ⟨37, _⟩ => ⟨S4, .f32⟩
  | .hbm, ⟨38, _⟩ => ⟨S4x3, .f32⟩
  | .hbm, ⟨39, _⟩ => ⟨S3x4, .f32⟩
  | .hbm, ⟨40, _⟩ => ⟨S12, .f32⟩
  | .hbm, ⟨41, _⟩ => ⟨S4x1, .f32⟩
  | .hbm, ⟨42, _⟩ => ⟨S4, .f32⟩
  | .hbm, ⟨43, _⟩ => ⟨S4x1, .f32⟩
  | .hbm, ⟨44, _⟩ => ⟨S4, .f32⟩
  | .hbm, ⟨45, _⟩ => ⟨S4x1, .f32⟩
  | .hbm, ⟨46, _⟩ => ⟨S4, .f32⟩
  | .hbm, ⟨47, _⟩ => ⟨S_, .f32⟩
  | .hbm, ⟨48, _⟩ => ⟨S88, .f32⟩
  | .hbm, ⟨49, _⟩ => ⟨S4x32, .f32⟩
  | .hbm, ⟨50, _⟩ => ⟨S128, .f32⟩
  | .hbm, ⟨51, _⟩ => ⟨S4x32, .f32⟩
  | .hbm, ⟨52, _⟩ => ⟨S128, .f32⟩
  | .hbm, ⟨53, _⟩ => ⟨S4x32, .f32⟩
  | .hbm, ⟨54, _⟩ => ⟨S128, .f32⟩
  | .hbm, ⟨55, _⟩ => ⟨S1024, .f32⟩
  | .hbm, ⟨56, _⟩ => ⟨S1x1024, .f32⟩
  | .hbm, ⟨57, _⟩ => ⟨S642x1024, .bf16⟩
  | .hbm, ⟨58, _⟩ => ⟨S642x1024, .f32⟩
  | .hbm, ⟨59, _⟩ => ⟨S642x1024, .f32⟩
  | .hbm, ⟨60, _⟩ => ⟨S642x1024, .bf16⟩
  | .hbm, ⟨61, _⟩ => ⟨S258x1024, .bf16⟩
  | .hbm, ⟨62, _⟩ => ⟨S258x1024, .bf16⟩
  | .hbm, ⟨63, _⟩ => ⟨S256x1024, .bf16⟩
  | .hbm, ⟨64, _⟩ => ⟨S256x1024, .bf16⟩
  | .hbm, ⟨65, _⟩ => ⟨S128x1024, .bf16⟩
  | .hbm, ⟨66, _⟩ => ⟨S128x1024, .bf16⟩
  | .hbm, ⟨67, _⟩ => ⟨S512x32x258, .f32⟩
  | .hbm, ⟨68, _⟩ => ⟨S512x32x256, .f32⟩
  | .hbm, ⟨69, _⟩ => ⟨S32x512x256, .f32⟩
  | .local _ .vmem, ⟨0, _⟩ => ⟨S1x32x258, .f32⟩
  | .local _ .vmem, ⟨1, _⟩ => ⟨S1x32x258, .f32⟩
  | .local _ .vmem, ⟨2, _⟩ => ⟨S258x1024, .bf16⟩
  | .local _ .vmem, ⟨3, _⟩ => ⟨S258x1024, .bf16⟩
  | .local _ .vmem, ⟨4, _⟩ => ⟨S256x1024, .bf16⟩
  | .local _ .vmem, ⟨5, _⟩ => ⟨S256x1024, .bf16⟩
  | .local _ .vmem, ⟨6, _⟩ => ⟨S128x1024, .bf16⟩
  | .local _ .vmem, ⟨7, _⟩ => ⟨S128x1024, .bf16⟩
  | .local _ .vmem, ⟨8, _⟩ => ⟨S1x1024, .f32⟩
  | .local _ .vmem, ⟨9, _⟩ => ⟨S1x32x256, .f32⟩
  | .local _ .vmem, ⟨10, _⟩ => ⟨S1x32x256, .f32⟩
  | .local _ .vmem, ⟨11, _⟩ => ⟨S32x256, .f32⟩
  | .local _ .vmem, ⟨12, _⟩ => ⟨S32x4x512, .f32⟩
  | .local _ .vmem, ⟨13, _⟩ => ⟨S32x4x512, .f32⟩
  | .local _ .vmem, ⟨14, _⟩ => ⟨S32x32x512, .f32⟩
  | _, _ => ⟨S32x512x258, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S258x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S258x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x512x258 : Shape := ⟨3, ![32, 512, 258]⟩
abbrev S32x512x256 : Shape := ⟨3, ![32, 512, 256]⟩
abbrev S642x256 : Shape := ⟨2, ![642, 256]⟩
abbrev S256 : Shape := ⟨1, ![256]⟩
abbrev S642x424 : Shape := ⟨2, ![642, 424]⟩
abbrev S424 : Shape := ⟨1, ![424]⟩
abbrev S_ : Shape := ⟨0, ![]⟩
abbrev S32x256 : Shape := ⟨2, ![32, 256]⟩
abbrev S32x4x512 : Shape := ⟨3, ![32, 4, 512]⟩
abbrev S1 : Shape := ⟨1, ![1]⟩
abbrev S32x4 : Shape := ⟨2, ![32, 4]⟩
abbrev S32x32x512 : Shape := ⟨3, ![32, 32, 512]⟩
abbrev S512x32x258 : Shape := ⟨3, ![512, 32, 258]⟩
abbrev S512x32x256 : Shape := ⟨3, ![512, 32, 256]⟩
abbrev S1x32x258 : Shape := ⟨3, ![1, 32, 258]⟩
abbrev S32x258 : Shape := ⟨2, ![32, 258]⟩
abbrev S32x4x32 : Shape := ⟨3, ![32, 4, 32]⟩
abbrev S32x128 : Shape := ⟨2, ![32, 128]⟩
abbrev S32x642 : Shape := ⟨2, ![32, 642]⟩
abbrev S1x256 : Shape := ⟨2, ![1, 256]⟩
abbrev S32x424 : Shape := ⟨2, ![32, 424]⟩
abbrev S1x424 : Shape := ⟨2, ![1, 424]⟩
abbrev S32x4x106 : Shape := ⟨3, ![32, 4, 106]⟩
abbrev S32x4x3 : Shape := ⟨3, ![32, 4, 3]⟩
abbrev S32x4x1 : Shape := ⟨3, ![32, 4, 1]⟩
abbrev S32x4x32x1 : Shape := ⟨4, ![32, 4, 32, 1]⟩
abbrev S32x4x1x512 : Shape := ⟨4, ![32, 4, 1, 512]⟩
abbrev S32x4x32x512 : Shape := ⟨4, ![32, 4, 32, 512]⟩
abbrev S32x1x32x512 : Shape := ⟨4, ![32, 1, 32, 512]⟩
abbrev S32x512 : Shape := ⟨2, ![32, 512]⟩
abbrev S32x1x512 : Shape := ⟨3, ![32, 1, 512]⟩
abbrev S32x4x511 : Shape := ⟨3, ![32, 4, 511]⟩
abbrev S32x4x0 : Shape := ⟨3, ![32, 4, 0]⟩
abbrev S32x4x512x1 : Shape := ⟨4, ![32, 4, 512, 1]⟩
abbrev S32x4x512x3 : Shape := ⟨4, ![32, 4, 512, 3]⟩
abbrev S1x32x256 : Shape := ⟨3, ![1, 32, 256]⟩

abbrev nBuf : Space → Nat
  | .hbm => 297
  | .vmem => 0
  | .smem => 0
  | _ => 0

abbrev hbmTy0_0 (i : Nat) : BufTy := match i % 128 with
  | 0 => ⟨S32x512x258, .f32⟩
  | 1 => ⟨S32x512x256, .f32⟩
  | 2 => ⟨S642x256, .f32⟩
  | 3 => ⟨S256, .f32⟩
  | 4 => ⟨S642x256, .f32⟩
  | 5 => ⟨S256, .f32⟩
  | 6 => ⟨S642x424, .f32⟩
  | 7 => ⟨S424, .f32⟩
  | 8 => ⟨S_, .f32⟩
  | 9 => ⟨S32x256, .f32⟩
  | 10 => ⟨S_, .f32⟩
  | 11 => ⟨S32x4x512, .f32⟩
  | 12 => ⟨S_, .i32⟩
  | 13 => ⟨S1, .i32⟩
  | 14 => ⟨S_, .f32⟩
  | 15 => ⟨S32x4, .f32⟩
  | 16 => ⟨S32x4x512, .f32⟩
  | 17 => ⟨S_, .f32⟩
  | 18 => ⟨S32x32x512, .f32⟩
  | 19 => ⟨S512x32x258, .f32⟩
  | 20 => ⟨S_, .f32⟩
  | 21 => ⟨S512x32x256, .f32⟩
  | 22 => ⟨S_, .i32⟩
  | 23 => ⟨S512x32x258, .f32⟩
  | 24 => ⟨S642x256, .f32⟩
  | 25 => ⟨S256, .f32⟩
  | 26 => ⟨S642x256, .f32⟩
  | 27 => ⟨S256, .f32⟩
  | 28 => ⟨S642x424, .f32⟩
  | 29 => ⟨S424, .f32⟩
  | 30 => ⟨S_, .i32⟩
  | 31 => ⟨S32x256, .f32⟩
  | 32 => ⟨S32x4x512, .f32⟩
  | 33 => ⟨S32x4x512, .f32⟩
  | 34 => ⟨S32x32x512, .f32⟩
  | 35 => ⟨S512x32x256, .f32⟩
  | 36 => ⟨S_, .i32⟩
  | 37 => ⟨S_, .i1⟩
  | 38 => ⟨S_, .i32⟩
  | 39 => ⟨S_, .i32⟩
  | 40 => ⟨S1x32x258, .f32⟩
  | 41 => ⟨S32x258, .f32⟩
  | 42 => ⟨S32x4x32, .f32⟩
  | 43 => ⟨S32x128, .f32⟩
  | 44 => ⟨S32x642, .f32⟩
  | 45 => ⟨S32x256, .f32⟩
  | 46 => ⟨S1x256, .f32⟩
  | 47 => ⟨S32x256, .f32⟩
  | 48 => ⟨S32x256, .f32⟩
  | 49 => ⟨S32x256, .f32⟩
  | 50 => ⟨S32x256, .f32⟩
  | 51 => ⟨S_, .f32⟩
  | 52 => ⟨S32x256, .f32⟩
  | 53 => ⟨S32x256, .f32⟩
  | 54 => ⟨S_, .f32⟩
  | 55 => ⟨S32x256, .f32⟩
  | 56 => ⟨S32x256, .f32⟩
  | 57 => ⟨S32x256, .f32⟩
  | 58 => ⟨S1x256, .f32⟩
  | 59 => ⟨S32x256, .f32⟩
  | 60 => ⟨S32x256, .f32⟩
  | 61 => ⟨S32x424, .f32⟩
  | 62 => ⟨S1x424, .f32⟩
  | 63 => ⟨S32x424, .f32⟩
  | 64 => ⟨S32x424, .f32⟩
  | 65 => ⟨S32x4x106, .f32⟩
  | 66 => ⟨S32x4x3, .f32⟩
  | 67 => ⟨S32x4x1, .f32⟩
  | 68 => ⟨S32x4x3, .f32⟩
  | 69 => ⟨S32x4x1, .f32⟩
  | 70 => ⟨S32x4x32, .f32⟩
  | 71 => ⟨S32x4x32, .f32⟩
  | 72 => ⟨S32x4x32, .f32⟩
  | 73 => ⟨S32x4x1, .f32⟩
  | 74 => ⟨S32x4x1, .f32⟩
  | 75 => ⟨S_, .f32⟩
  | 76 => ⟨S32x4x3, .f32⟩
  | 77 => ⟨S32x4x3, .f32⟩
  | 78 => ⟨S32x4x3, .f32⟩
  | 79 => ⟨S32x4x3, .f32⟩
  | 80 => ⟨S32x4x3, .i1⟩
  | 81 => ⟨S32x4x3, .f32⟩
  | 82 => ⟨S32x4x3, .f32⟩
  | 83 => ⟨S32x4x3, .f32⟩
  | 84 => ⟨S32x4x3, .f32⟩
  | 85 => ⟨S32x4x3, .f32⟩
  | 86 => ⟨S32x4x3, .f32⟩
  | 87 => ⟨S32x4x3, .f32⟩
  | 88 => ⟨S32x4x3, .f32⟩
  | 89 => ⟨S_, .f32⟩
  | 90 => ⟨S32x4, .f32⟩
  | 91 => ⟨S_, .f32⟩
  | 92 => ⟨S32x4, .f32⟩
  | 93 => ⟨S32x4, .f32⟩
  | 94 => ⟨S32x4x1, .f32⟩
  | 95 => ⟨S32x4x3, .f32⟩
  | 96 => ⟨S32x4x3, .f32⟩
  | 97 => ⟨S32x4x3, .f32⟩
  | 98 => ⟨S_, .f32⟩
  | 99 => ⟨S32x4, .f32⟩
  | 100 => ⟨S32x4x1, .f32⟩
  | 101 => ⟨S32x4x3, .f32⟩
  | 102 => ⟨S32x4x3, .f32⟩
  | 103 => ⟨S_, .f32⟩
  | 104 => ⟨S32x4x1, .f32⟩
  | 105 => ⟨S32x4x1, .f32⟩
  | 106 => ⟨S32x4x1, .f32⟩
  | 107 => ⟨S32x4x1, .f32⟩
  | 108 => ⟨S32x4x1, .i1⟩
  | 109 => ⟨S32x4x1, .f32⟩
  | 110 => ⟨S32x4x1, .f32⟩
  | 111 => ⟨S32x4x1, .f32⟩
  | 112 => ⟨S32x4x1, .f32⟩
  | 113 => ⟨S32x4x1, .f32⟩
  | 114 => ⟨S32x4x1, .f32⟩
  | 115 => ⟨S32x4x1, .f32⟩
  | 116 => ⟨S32x4x1, .f32⟩
  | 117 => ⟨S_, .f32⟩
  | 118 => ⟨S32x4x1, .f32⟩
  | 119 => ⟨S32x4x1, .f32⟩
  | 120 => ⟨S32x4x32, .f32⟩
  | 121 => ⟨S32x4x32, .f32⟩
  | 122 => ⟨S_, .f32⟩
  | 123 => ⟨S32x4x32, .f32⟩
  | 124 => ⟨S32x4x32, .f32⟩
  | 125 => ⟨S_, .f32⟩
  | 126 => ⟨S32x4x32, .f32⟩
  | 127 => ⟨S32x4x32, .f32⟩
  | _ => ⟨S32x512x258, .f32⟩

abbrev hbmTy0_1 (i : Nat) : BufTy := match i % 128 with
  | 0 => ⟨S32x4x1, .f32⟩
  | 1 => ⟨S32x4x1, .f32⟩
  | 2 => ⟨S_, .f32⟩
  | 3 => ⟨S32x4x1, .f32⟩
  | 4 => ⟨S32x4x1, .f32⟩
  | 5 => ⟨S_, .f32⟩
  | 6 => ⟨S32x4x1, .f32⟩
  | 7 => ⟨S32x4x1, .f32⟩
  | 8 => ⟨S_, .f32⟩
  | 9 => ⟨S32x4, .f32⟩
  | 10 => ⟨S_, .f32⟩
  | 11 => ⟨S32x4, .f32⟩
  | 12 => ⟨S32x4, .f32⟩
  | 13 => ⟨S32x4x1, .f32⟩
  | 14 => ⟨S32x4x3, .f32⟩
  | 15 => ⟨S32x4x3, .f32⟩
  | 16 => ⟨S32x4x3, .f32⟩
  | 17 => ⟨S_, .f32⟩
  | 18 => ⟨S32x4, .f32⟩
  | 19 => ⟨S32x4x1, .f32⟩
  | 20 => ⟨S32x4x3, .f32⟩
  | 21 => ⟨S32x4x3, .f32⟩
  | 22 => ⟨S32x4x32, .f32⟩
  | 23 => ⟨S_, .f32⟩
  | 24 => ⟨S32x4x1, .f32⟩
  | 25 => ⟨S32x4x1, .f32⟩
  | 26 => ⟨S32x4x1, .f32⟩
  | 27 => ⟨S32x4x1, .f32⟩
  | 28 => ⟨S32x4x1, .i1⟩
  | 29 => ⟨S32x4x1, .f32⟩
  | 30 => ⟨S32x4x1, .f32⟩
  | 31 => ⟨S32x4x1, .f32⟩
  | 32 => ⟨S32x4x1, .f32⟩
  | 33 => ⟨S32x4x1, .f32⟩
  | 34 => ⟨S32x4x1, .f32⟩
  | 35 => ⟨S32x4x1, .f32⟩
  | 36 => ⟨S32x4x1, .f32⟩
  | 37 => ⟨S32x4x1, .f32⟩
  | 38 => ⟨S32x4x1, .f32⟩
  | 39 => ⟨S_, .f32⟩
  | 40 => ⟨S32x4x1, .f32⟩
  | 41 => ⟨S32x4x1, .f32⟩
  | 42 => ⟨S_, .f32⟩
  | 43 => ⟨S32x4x1, .f32⟩
  | 44 => ⟨S32x4x1, .f32⟩
  | 45 => ⟨S_, .f32⟩
  | 46 => ⟨S32x4x1, .f32⟩
  | 47 => ⟨S32x4x1, .f32⟩
  | 48 => ⟨S32x4x512, .f32⟩
  | 49 => ⟨S32x4x512, .f32⟩
  | 50 => ⟨S32x4x512, .f32⟩
  | 51 => ⟨S32x4x512, .f32⟩
  | 52 => ⟨S32x4x512, .f32⟩
  | 53 => ⟨S_, .f32⟩
  | 54 => ⟨S32x4x512, .f32⟩
  | 55 => ⟨S_, .i32⟩
  | 56 => ⟨S1, .i32⟩
  | 57 => ⟨S_, .f32⟩
  | 58 => ⟨S32x4, .f32⟩
  | 59 => ⟨S32x4x512, .f32⟩
  | 60 => ⟨S32x4x1, .f32⟩
  | 61 => ⟨S32x4x512, .f32⟩
  | 62 => ⟨S32x4x512, .f32⟩
  | 63 => ⟨S32x4x1, .f32⟩
  | 64 => ⟨S32x4x512, .f32⟩
  | 65 => ⟨S32x4x512, .f32⟩
  | 66 => ⟨S32x4x512, .f32⟩
  | 67 => ⟨S32x4x1, .f32⟩
  | 68 => ⟨S32x4x512, .f32⟩
  | 69 => ⟨S32x4x512, .f32⟩
  | 70 => ⟨S32x4x512, .f32⟩
  | 71 => ⟨S32x4x32x1, .f32⟩
  | 72 => ⟨S32x4x1x512, .f32⟩
  | 73 => ⟨S32x4x32x512, .f32⟩
  | 74 => ⟨S32x4x32x512, .f32⟩
  | 75 => ⟨S32x4x32x512, .f32⟩
  | 76 => ⟨S_, .f32⟩
  | 77 => ⟨S32x4x32x512, .f32⟩
  | 78 => ⟨S32x4x32x512, .f32⟩
  | 79 => ⟨S32x1x32x512, .f32⟩
  | 80 => ⟨S32x32x512, .f32⟩
  | 81 => ⟨S32x1x32x512, .f32⟩
  | 82 => ⟨S32x32x512, .f32⟩
  | 83 => ⟨S32x32x512, .f32⟩
  | 84 => ⟨S32x1x32x512, .f32⟩
  | 85 => ⟨S32x32x512, .f32⟩
  | 86 => ⟨S32x32x512, .f32⟩
  | 87 => ⟨S32x1x32x512, .f32⟩
  | 88 => ⟨S32x32x512, .f32⟩
  | 89 => ⟨S32x32x512, .f32⟩
  | 90 => ⟨S32x32x512, .f32⟩
  | 91 => ⟨S32x32x512, .f32⟩
  | 92 => ⟨S32x32x512, .f32⟩
  | 93 => ⟨S32x4x32, .f32⟩
  | 94 => ⟨S_, .f32⟩
  | 95 => ⟨S32x4, .f32⟩
  | 96 => ⟨S32x4x1, .f32⟩
  | 97 => ⟨S32x4x1, .f32⟩
  | 98 => ⟨S_, .f32⟩
  | 99 => ⟨S32x4x1, .f32⟩
  | 100 => ⟨S32x4x1, .f32⟩
  | 101 => ⟨S32x4x32, .f32⟩
  | 102 => ⟨S32x4x32, .f32⟩
  | 103 => ⟨S32x32x512, .f32⟩
  | 104 => ⟨S_, .f32⟩
  | 105 => ⟨S32x512, .f32⟩
  | 106 => ⟨S32x1x512, .f32⟩
  | 107 => ⟨S32x1x512, .f32⟩
  | 108 => ⟨S_, .f32⟩
  | 109 => ⟨S32x1x512, .f32⟩
  | 110 => ⟨S32x1x512, .f32⟩
  | 111 => ⟨S32x32x512, .f32⟩
  | 112 => ⟨S32x32x512, .f32⟩
  | 113 => ⟨S32x4x512, .f32⟩
  | 114 => ⟨S32x4x512, .f32⟩
  | 115 => ⟨S32x4x512, .f32⟩
  | 116 => ⟨S_, .f32⟩
  | 117 => ⟨S32x4, .f32⟩
  | 118 => ⟨S_, .f32⟩
  | 119 => ⟨S32x4, .f32⟩
  | 120 => ⟨S32x4, .f32⟩
  | 121 => ⟨S32x4x1, .f32⟩
  | 122 => ⟨S32x4x512, .f32⟩
  | 123 => ⟨S32x4x512, .f32⟩
  | 124 => ⟨S32x4x512, .f32⟩
  | 125 => ⟨S_, .f32⟩
  | 126 => ⟨S32x4, .f32⟩
  | 127 => ⟨S32x4x1, .f32⟩
  | _ => ⟨S32x512x258, .f32⟩

abbrev hbmTy0_2 (i : Nat) : BufTy := match i % 128 with
  | 0 => ⟨S32x4x512, .f32⟩
  | 1 => ⟨S32x4x512, .f32⟩
  | 2 => ⟨S32x4x512, .f32⟩
  | 3 => ⟨S32x4x512, .f32⟩
  | 4 => ⟨S_, .f32⟩
  | 5 => ⟨S32x4x1, .f32⟩
  | 6 => ⟨S32x4x1, .f32⟩
  | 7 => ⟨S32x4x512, .f32⟩
  | 8 => ⟨S32x4x512, .f32⟩
  | 9 => ⟨S32x4x512, .f32⟩
  | 10 => ⟨S32x4x511, .f32⟩
  | 11 => ⟨S32x4x1, .f32⟩
  | 12 => ⟨S32x4x512, .f32⟩
  | 13 => ⟨S32x4x512, .f32⟩
  | 14 => ⟨S32x4x0, .f32⟩
  | 15 => ⟨S32x4x512, .f32⟩
  | 16 => ⟨S32x4x1, .f32⟩
  | 17 => ⟨S32x4x511, .f32⟩
  | 18 => ⟨S32x4x512, .f32⟩
  | 19 => ⟨S32x4x512x1, .f32⟩
  | 20 => ⟨S32x4x512x1, .f32⟩
  | 21 => ⟨S32x4x512x1, .f32⟩
  | 22 => ⟨S32x4x512x3, .f32⟩
  | 23 => ⟨S32x4x512, .f32⟩
  | 24 => ⟨S_, .f32⟩
  | 25 => ⟨S32x4x512, .f32⟩
  | 26 => ⟨S32x4x512, .f32⟩
  | 27 => ⟨S32x4x512, .f32⟩
  | 28 => ⟨S32x4x512, .f32⟩
  | 29 => ⟨S_, .f32⟩
  | 30 => ⟨S32x4, .f32⟩
  | 31 => ⟨S32x4x1, .f32⟩
  | 32 => ⟨S32x4x512, .f32⟩
  | 33 => ⟨S32x4x512, .f32⟩
  | 34 => ⟨S1x32x256, .f32⟩
  | 35 => ⟨S_, .i32⟩
  | 36 => ⟨S_, .i32⟩
  | 37 => ⟨S512x32x256, .f32⟩
  | 38 => ⟨S_, .i32⟩
  | 39 => ⟨S_, .i32⟩
  | 40 => ⟨S32x512x256, .f32⟩
  | _ => ⟨S32x512x258, .f32⟩

abbrev hbmTy (i : Nat) : BufTy := match i / 128 with
  | 0 => hbmTy0_0 i
  | 1 => hbmTy0_1 i
  | 2 => hbmTy0_2 i
  | _ => ⟨S32x512x258, .f32⟩

abbrev bufTy : (tb : Table) → Fin (tcTables nBuf tb) → BufTy
  | .hbm, ⟨i, _⟩ => hbmTy i
  | _, _ => ⟨S32x512x258, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_c_4 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev main_v8_5 : Ref sig .tc := ⟨.hbm, 28, rfl⟩
abbrev main_v8_6 : Ref sig .tc := ⟨.hbm, 29, rfl⟩
abbrev main_v8_7 : Ref sig .tc := ⟨.hbm, 30, rfl⟩
abbrev main_v8_8 : Ref sig .tc := ⟨.hbm, 31, rfl⟩
abbrev main_v8_9 : Ref sig .tc := ⟨.hbm, 32, rfl⟩
abbrev main_v8_10 : Ref sig .tc := ⟨.hbm, 33, rfl⟩
abbrev main_v8_11 : Ref sig .tc := ⟨.hbm, 34, rfl⟩
abbrev main_v8_12 : Ref sig .tc := ⟨.hbm, 35, rfl⟩
abbrev main_while0c_c_17 : Ref sig .tc := ⟨.hbm, 36, rfl⟩
abbrev main_while0c_v10 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_v0 : Ref sig .tc := ⟨.hbm, 40, rfl⟩
abbrev main_while0b_v10 : Ref sig .tc := ⟨.hbm, 41, rfl⟩
abbrev main_while0b_v11 : Ref sig .tc := ⟨.hbm, 42, rfl⟩
abbrev main_while0b_v12 : Ref sig .tc := ⟨.hbm, 43, rfl⟩
abbrev main_while0b_v13 : Ref sig .tc := ⟨.hbm, 44, rfl⟩
abbrev main_while0b_v14 : Ref sig .tc := ⟨.hbm, 45, rfl⟩
abbrev main_while0b_v15 : Ref sig .tc := ⟨.hbm, 46, rfl⟩
abbrev main_while0b_v16 : Ref sig .tc := ⟨.hbm, 47, rfl⟩
abbrev main_while0b_v17 : Ref sig .tc := ⟨.hbm, 48, rfl⟩
abbrev main_while0b_v18 : Ref sig .tc := ⟨.hbm, 49, rfl⟩
abbrev main_while0b_v19 : Ref sig .tc := ⟨.hbm, 50, rfl⟩
abbrev main_while0b_cst_17 : Ref sig .tc := ⟨.hbm, 51, rfl⟩
abbrev main_while0b_v20 : Ref sig .tc := ⟨.hbm, 52, rfl⟩
abbrev main_while0b_v21 : Ref sig .tc := ⟨.hbm, 53, rfl⟩
abbrev main_while0b_cst_18 : Ref sig .tc := ⟨.hbm, 54, rfl⟩
abbrev main_while0b_v22 : Ref sig .tc := ⟨.hbm, 55, rfl⟩
abbrev main_while0b_v23 : Ref sig .tc := ⟨.hbm, 56, rfl⟩
abbrev main_while0b_v24 : Ref sig .tc := ⟨.hbm, 57, rfl⟩
abbrev main_while0b_v25 : Ref sig .tc := ⟨.hbm, 58, rfl⟩
abbrev main_while0b_v26 : Ref sig .tc := ⟨.hbm, 59, rfl⟩
abbrev main_while0b_v27 : Ref sig .tc := ⟨.hbm, 60, rfl⟩
abbrev main_while0b_v28 : Ref sig .tc := ⟨.hbm, 61, rfl⟩
abbrev main_while0b_v29 : Ref sig .tc := ⟨.hbm, 62, rfl⟩
abbrev main_while0b_v30 : Ref sig .tc := ⟨.hbm, 63, rfl⟩
abbrev main_while0b_v31 : Ref sig .tc := ⟨.hbm, 64, rfl⟩
abbrev main_while0b_v32 : Ref sig .tc := ⟨.hbm, 65, rfl⟩
abbrev main_while0b_v33 : Ref sig .tc := ⟨.hbm, 66, rfl⟩
abbrev main_while0b_v34 : Ref sig .tc := ⟨.hbm, 67, rfl⟩
abbrev main_while0b_v35 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_call1_cst : Ref sig .tc := ⟨.hbm, 75, rfl⟩
abbrev main_while0b_call1_v0 : Ref sig .tc := ⟨.hbm, 76, rfl⟩
abbrev main_while0b_call1_v1 : Ref sig .tc := ⟨.hbm, 77, rfl⟩
abbrev main_while0b_call1_v2 : Ref sig .tc := ⟨.hbm, 78, rfl⟩
abbrev main_while0b_call1_v3 : Ref sig .tc := ⟨.hbm, 79, rfl⟩
abbrev main_while0b_call1_v4 : Ref sig .tc := ⟨.hbm, 80, rfl⟩
abbrev main_while0b_call1_v5 : Ref sig .tc := ⟨.hbm, 81, rfl⟩
abbrev main_while0b_call1_v6 : Ref sig .tc := ⟨.hbm, 82, rfl⟩
abbrev main_while0b_call1_v7 : Ref sig .tc := ⟨.hbm, 83, rfl⟩
abbrev main_while0b_call1_v8 : Ref sig .tc := ⟨.hbm, 84, rfl⟩
abbrev main_while0b_call1_v9 : Ref sig .tc := ⟨.hbm, 85, rfl⟩
abbrev main_while0b_call1_v10 : Ref sig .tc := ⟨.hbm, 86, rfl⟩
abbrev main_while0b_call1_v11 : Ref sig .tc := ⟨.hbm, 87, rfl⟩
abbrev main_while0b_v42 : Ref sig .tc := ⟨.hbm, 88, rfl⟩
abbrev main_while0b_cst_19 : Ref sig .tc := ⟨.hbm, 89, rfl⟩
abbrev main_while0b_v43 : Ref sig .tc := ⟨.hbm, 90, rfl⟩
abbrev main_while0b_cst_20 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_v48 : Ref sig .tc := ⟨.hbm, 96, rfl⟩
abbrev main_while0b_v49 : Ref sig .tc := ⟨.hbm, 97, rfl⟩
abbrev main_while0b_cst_21 : Ref sig .tc := ⟨.hbm, 98, rfl⟩
abbrev main_while0b_v50 : Ref sig .tc := ⟨.hbm, 99, rfl⟩
abbrev main_while0b_v51 : Ref sig .tc := ⟨.hbm, 100, rfl⟩
abbrev main_while0b_v52 : Ref sig .tc := ⟨.hbm, 101, rfl⟩
abbrev main_while0b_v53 : Ref sig .tc := ⟨.hbm, 102, rfl⟩
abbrev main_while0b_call2_cst : Ref sig .tc := ⟨.hbm, 103, rfl⟩
abbrev main_while0b_call2_v0 : Ref sig .tc := ⟨.hbm, 104, rfl⟩
abbrev main_while0b_call2_v1 : Ref sig .tc := ⟨.hbm, 105, rfl⟩
abbrev main_while0b_call2_v2 : Ref sig .tc := ⟨.hbm, 106, rfl⟩
abbrev main_while0b_call2_v3 : Ref sig .tc := ⟨.hbm, 107, rfl⟩
abbrev main_while0b_call2_v4 : Ref sig .tc := ⟨.hbm, 108, rfl⟩
abbrev main_while0b_call2_v5 : Ref sig .tc := ⟨.hbm, 109, rfl⟩
abbrev main_while0b_call2_v6 : Ref sig .tc := ⟨.hbm, 110, rfl⟩
abbrev main_while0b_call2_v7 : Ref sig .tc := ⟨.hbm, 111, rfl⟩
abbrev main_while0b_call2_v8 : Ref sig .tc := ⟨.hbm, 112, rfl⟩
abbrev main_while0b_call2_v9 : Ref sig .tc := ⟨.hbm, 113, rfl⟩
abbrev main_while0b_call2_v10 : Ref sig .tc := ⟨.hbm, 114, rfl⟩
abbrev main_while0b_call2_v11 : Ref sig .tc := ⟨.hbm, 115, rfl⟩
abbrev main_while0b_v54 : Ref sig .tc := ⟨.hbm, 116, rfl⟩
abbrev main_while0b_cst_22 : Ref sig .tc := ⟨.hbm, 117, rfl⟩
abbrev main_while0b_v55 : Ref sig .tc := ⟨.hbm, 118, rfl⟩
abbrev main_while0b_v56 : Ref sig .tc := ⟨.hbm, 119, rfl⟩
abbrev main_while0b_v57 : Ref sig .tc := ⟨.hbm, 120, rfl⟩
abbrev main_while0b_v58 : Ref sig .tc := ⟨.hbm, 121, rfl⟩
abbrev main_while0b_cst_23 : Ref sig .tc := ⟨.hbm, 122, rfl⟩
abbrev main_while0b_v59 : Ref sig .tc := ⟨.hbm, 123, rfl⟩
abbrev main_while0b_v60 : Ref sig .tc := ⟨.hbm, 124, rfl⟩
abbrev main_while0b_cst_24 : Ref sig .tc := ⟨.hbm, 125, rfl⟩
abbrev main_while0b_v61 : Ref sig .tc := ⟨.hbm, 126, rfl⟩
abbrev main_while0b_v62 : Ref sig .tc := ⟨.hbm, 127, rfl⟩
abbrev main_while0b_v63 : Ref sig .tc := ⟨.hbm, 128, rfl⟩
abbrev main_while0b_v64 : Ref sig .tc := ⟨.hbm, 129, rfl⟩
abbrev main_while0b_cst_25 : Ref sig .tc := ⟨.hbm, 130, rfl⟩
abbrev main_while0b_v65 : Ref sig .tc := ⟨.hbm, 131, rfl⟩
abbrev main_while0b_v66 : Ref sig .tc := ⟨.hbm, 132, rfl⟩
abbrev main_while0b_cst_26 : Ref sig .tc := ⟨.hbm, 133, rfl⟩
abbrev main_while0b_v67 : Ref sig .tc := ⟨.hbm, 134, rfl⟩
abbrev main_while0b_v68 : Ref sig .tc := ⟨.hbm, 135, rfl⟩
abbrev main_while0b_cst_27 : Ref sig .tc := ⟨.hbm, 136, rfl⟩
abbrev main_while0b_v69 : Ref sig .tc := ⟨.hbm, 137, rfl⟩
abbrev main_while0b_cst_28 : Ref sig .tc := ⟨.hbm, 138, rfl⟩
abbrev main_while0b_v70 : Ref sig .tc := ⟨.hbm, 139, rfl⟩
abbrev main_while0b_v71 : Ref sig .tc := ⟨.hbm, 140, rfl⟩
abbrev main_while0b_v72 : Ref sig .tc := ⟨.hbm, 141, rfl⟩
abbrev main_while0b_v73 : Ref sig .tc := ⟨.hbm, 142, rfl⟩
abbrev main_while0b_v74 : Ref sig .tc := ⟨.hbm, 143, rfl⟩
abbrev main_while0b_v75 : Ref sig .tc := ⟨.hbm, 144, rfl⟩
abbrev main_while0b_cst_29 : Ref sig .tc := ⟨.hbm, 145, rfl⟩
abbrev main_while0b_v76 : Ref sig .tc := ⟨.hbm, 146, rfl⟩
abbrev main_while0b_v77 : Ref sig .tc := ⟨.hbm, 147, rfl⟩
abbrev main_while0b_v78 : Ref sig .tc := ⟨.hbm, 148, rfl⟩
abbrev main_while0b_v79 : Ref sig .tc := ⟨.hbm, 149, rfl⟩
abbrev main_while0b_v80 : Ref sig .tc := ⟨.hbm, 150, rfl⟩
abbrev main_while0b_call3_cst : Ref sig .tc := ⟨.hbm, 151, rfl⟩
abbrev main_while0b_call3_v0 : Ref sig .tc := ⟨.hbm, 152, rfl⟩
abbrev main_while0b_call3_v1 : Ref sig .tc := ⟨.hbm, 153, rfl⟩
abbrev main_while0b_call3_v2 : Ref sig .tc := ⟨.hbm, 154, rfl⟩
abbrev main_while0b_call3_v3 : Ref sig .tc := ⟨.hbm, 155, rfl⟩
abbrev main_while0b_call3_v4 : Ref sig .tc := ⟨.hbm, 156, rfl⟩
abbrev main_while0b_call3_v5 : Ref sig .tc := ⟨.hbm, 157, rfl⟩
abbrev main_while0b_call3_v6 : Ref sig .tc := ⟨.hbm, 158, rfl⟩
abbrev main_while0b_call3_v7 : Ref sig .tc := ⟨.hbm, 159, rfl⟩
abbrev main_while0b_call3_v8 : Ref sig .tc := ⟨.hbm, 160, rfl⟩
abbrev main_while0b_call3_v9 : Ref sig .tc := ⟨.hbm, 161, rfl⟩
abbrev main_while0b_call3_v10 : Ref sig .tc := ⟨.hbm, 162, rfl⟩
abbrev main_while0b_call3_v11 : Ref sig .tc := ⟨.hbm, 163, rfl⟩
abbrev main_while0b_v81 : Ref sig .tc := ⟨.hbm, 164, rfl⟩
abbrev main_while0b_v82 : Ref sig .tc := ⟨.hbm, 165, rfl⟩
abbrev main_while0b_v83 : Ref sig .tc := ⟨.hbm, 166, rfl⟩
abbrev main_while0b_cst_30 : Ref sig .tc := ⟨.hbm, 167, rfl⟩
abbrev main_while0b_v84 : Ref sig .tc := ⟨.hbm, 168, rfl⟩
abbrev main_while0b_v85 : Ref sig .tc := ⟨.hbm, 169, rfl⟩
abbrev main_while0b_cst_31 : Ref sig .tc := ⟨.hbm, 170, rfl⟩
abbrev main_while0b_v86 : Ref sig .tc := ⟨.hbm, 171, rfl⟩
abbrev main_while0b_v87 : Ref sig .tc := ⟨.hbm, 172, rfl⟩
abbrev main_while0b_cst_32 : Ref sig .tc := ⟨.hbm, 173, rfl⟩
abbrev main_while0b_v88 : Ref sig .tc := ⟨.hbm, 174, rfl⟩
abbrev main_while0b_v89 : Ref sig .tc := ⟨.hbm, 175, rfl⟩
abbrev main_while0b_v90 : Ref sig .tc := ⟨.hbm, 176, rfl⟩
abbrev main_while0b_v91 : Ref sig .tc := ⟨.hbm, 177, rfl⟩
abbrev main_while0b_v92 : Ref sig .tc := ⟨.hbm, 178, rfl⟩
abbrev main_while0b_v93 : Ref sig .tc := ⟨.hbm, 179, rfl⟩
abbrev main_while0b_v94 : Ref sig .tc := ⟨.hbm, 180, rfl⟩
abbrev main_while0b_cst_33 : Ref sig .tc := ⟨.hbm, 181, rfl⟩
abbrev main_while0b_v95 : Ref sig .tc := ⟨.hbm, 182, rfl⟩
abbrev main_while0b_c_34 : Ref sig .tc := ⟨.hbm, 183, rfl⟩
abbrev main_while0b_v96 : Ref sig .tc := ⟨.hbm, 184, rfl⟩
abbrev main_while0b_cst_35 : Ref sig .tc := ⟨.hbm, 185, rfl⟩
abbrev main_while0b_v97 : Ref sig .tc := ⟨.hbm, 186, rfl⟩
abbrev main_while0b_v98 : Ref sig .tc := ⟨.hbm, 187, rfl⟩
abbrev main_while0b_v99 : Ref sig .tc := ⟨.hbm, 188, rfl⟩
abbrev main_while0b_v100 : Ref sig .tc := ⟨.hbm, 189, rfl⟩
abbrev main_while0b_v101 : Ref sig .tc := ⟨.hbm, 190, rfl⟩
abbrev main_while0b_v102 : Ref sig .tc := ⟨.hbm, 191, rfl⟩
abbrev main_while0b_v103 : Ref sig .tc := ⟨.hbm, 192, rfl⟩
abbrev main_while0b_v104 : Ref sig .tc := ⟨.hbm, 193, rfl⟩
abbrev main_while0b_v105 : Ref sig .tc := ⟨.hbm, 194, rfl⟩
abbrev main_while0b_v106 : Ref sig .tc := ⟨.hbm, 195, rfl⟩
abbrev main_while0b_v107 : Ref sig .tc := ⟨.hbm, 196, rfl⟩
abbrev main_while0b_v108 : Ref sig .tc := ⟨.hbm, 197, rfl⟩
abbrev main_while0b_v109 : Ref sig .tc := ⟨.hbm, 198, rfl⟩
abbrev main_while0b_v110 : Ref sig .tc := ⟨.hbm, 199, rfl⟩
abbrev main_while0b_v111 : Ref sig .tc := ⟨.hbm, 200, rfl⟩
abbrev main_while0b_v112 : Ref sig .tc := ⟨.hbm, 201, rfl⟩
abbrev main_while0b_v113 : Ref sig .tc := ⟨.hbm, 202, rfl⟩
abbrev main_while0b_v114 : Ref sig .tc := ⟨.hbm, 203, rfl⟩
abbrev main_while0b_cst_36 : Ref sig .tc := ⟨.hbm, 204, rfl⟩
abbrev main_while0b_v115 : Ref sig .tc := ⟨.hbm, 205, rfl⟩
abbrev main_while0b_v116 : Ref sig .tc := ⟨.hbm, 206, rfl⟩
abbrev main_while0b_v117 : Ref sig .tc := ⟨.hbm, 207, rfl⟩
abbrev main_while0b_v118 : Ref sig .tc := ⟨.hbm, 208, rfl⟩
abbrev main_while0b_v119 : Ref sig .tc := ⟨.hbm, 209, rfl⟩
abbrev main_while0b_v120 : Ref sig .tc := ⟨.hbm, 210, rfl⟩
abbrev main_while0b_v121 : Ref sig .tc := ⟨.hbm, 211, rfl⟩
abbrev main_while0b_v122 : Ref sig .tc := ⟨.hbm, 212, rfl⟩
abbrev main_while0b_v123 : Ref sig .tc := ⟨.hbm, 213, rfl⟩
abbrev main_while0b_v124 : Ref sig .tc := ⟨.hbm, 214, rfl⟩
abbrev main_while0b_v125 : Ref sig .tc := ⟨.hbm, 215, rfl⟩
abbrev main_while0b_v126 : Ref sig .tc := ⟨.hbm, 216, rfl⟩
abbrev main_while0b_v127 : Ref sig .tc := ⟨.hbm, 217, rfl⟩
abbrev main_while0b_v128 : Ref sig .tc := ⟨.hbm, 218, rfl⟩
abbrev main_while0b_v129 : Ref sig .tc := ⟨.hbm, 219, rfl⟩
abbrev main_while0b_v130 : Ref sig .tc := ⟨.hbm, 220, rfl⟩
abbrev main_while0b_call4_v0 : Ref sig .tc := ⟨.hbm, 221, rfl⟩
abbrev main_while0b_call4_cst : Ref sig .tc := ⟨.hbm, 222, rfl⟩
abbrev main_while0b_call4_v1 : Ref sig .tc := ⟨.hbm, 223, rfl⟩
abbrev main_while0b_call4_v2 : Ref sig .tc := ⟨.hbm, 224, rfl⟩
abbrev main_while0b_v131 : Ref sig .tc := ⟨.hbm, 225, rfl⟩
abbrev main_while0b_cst_37 : Ref sig .tc := ⟨.hbm, 226, rfl⟩
abbrev main_while0b_v132 : Ref sig .tc := ⟨.hbm, 227, rfl⟩
abbrev main_while0b_v133 : Ref sig .tc := ⟨.hbm, 228, rfl⟩
abbrev main_while0b_v134 : Ref sig .tc := ⟨.hbm, 229, rfl⟩
abbrev main_while0b_v135 : Ref sig .tc := ⟨.hbm, 230, rfl⟩
abbrev main_while0b_call5_v0 : Ref sig .tc := ⟨.hbm, 231, rfl⟩
abbrev main_while0b_call5_cst : Ref sig .tc := ⟨.hbm, 232, rfl⟩
abbrev main_while0b_call5_v1 : Ref sig .tc := ⟨.hbm, 233, rfl⟩
abbrev main_while0b_call5_v2 : Ref sig .tc := ⟨.hbm, 234, rfl⟩
abbrev main_while0b_v136 : Ref sig .tc := ⟨.hbm, 235, rfl⟩
abbrev main_while0b_cst_38 : Ref sig .tc := ⟨.hbm, 236, rfl⟩
abbrev main_while0b_v137 : Ref sig .tc := ⟨.hbm, 237, rfl⟩
abbrev main_while0b_v138 : Ref sig .tc := ⟨.hbm, 238, rfl⟩
abbrev main_while0b_v139 : Ref sig .tc := ⟨.hbm, 239, rfl⟩
abbrev main_while0b_v140 : Ref sig .tc := ⟨.hbm, 240, rfl⟩
abbrev main_while0b_v141 : Ref sig .tc := ⟨.hbm, 241, rfl⟩
abbrev main_while0b_v142 : Ref sig .tc := ⟨.hbm, 242, rfl⟩
abbrev main_while0b_v143 : Ref sig .tc := ⟨.hbm, 243, rfl⟩
abbrev main_while0b_cst_39 : Ref sig .tc := ⟨.hbm, 244, rfl⟩
abbrev main_while0b_v144 : Ref sig .tc := ⟨.hbm, 245, rfl⟩
abbrev main_while0b_cst_40 : Ref sig .tc := ⟨.hbm, 246, rfl⟩
abbrev main_while0b_v145 : Ref sig .tc := ⟨.hbm, 247, rfl⟩
abbrev main_while0b_v146 : Ref sig .tc := ⟨.hbm, 248, rfl⟩
abbrev main_while0b_v147 : Ref sig .tc := ⟨.hbm, 249, rfl⟩
abbrev main_while0b_v148 : Ref sig .tc := ⟨.hbm, 250, rfl⟩
abbrev main_while0b_v149 : Ref sig .tc := ⟨.hbm, 251, rfl⟩
abbrev main_while0b_v150 : Ref sig .tc := ⟨.hbm, 252, rfl⟩
abbrev main_while0b_cst_41 : Ref sig .tc := ⟨.hbm, 253, rfl⟩
abbrev main_while0b_v151 : Ref sig .tc := ⟨.hbm, 254, rfl⟩
abbrev main_while0b_v152 : Ref sig .tc := ⟨.hbm, 255, rfl⟩
abbrev main_while0b_v153 : Ref sig .tc := ⟨.hbm, 256, rfl⟩
abbrev main_while0b_v154 : Ref sig .tc := ⟨.hbm, 257, rfl⟩
abbrev main_while0b_v155 : Ref sig .tc := ⟨.hbm, 258, rfl⟩
abbrev main_while0b_v156 : Ref sig .tc := ⟨.hbm, 259, rfl⟩
abbrev main_while0b_cst_42 : Ref sig .tc := ⟨.hbm, 260, rfl⟩
abbrev main_while0b_v157 : Ref sig .tc := ⟨.hbm, 261, rfl⟩
abbrev main_while0b_v158 : Ref sig .tc := ⟨.hbm, 262, rfl⟩
abbrev main_while0b_v159 : Ref sig .tc := ⟨.hbm, 263, rfl⟩
abbrev main_while0b_v160 : Ref sig .tc := ⟨.hbm, 264, rfl⟩
abbrev main_while0b_v161 : Ref sig .tc := ⟨.hbm, 265, rfl⟩
abbrev main_while0b_call6_v0 : Ref sig .tc := ⟨.hbm, 266, rfl⟩
abbrev main_while0b_call6_v1 : Ref sig .tc := ⟨.hbm, 267, rfl⟩
abbrev main_while0b_v162 : Ref sig .tc := ⟨.hbm, 268, rfl⟩
abbrev main_while0b_call7_v0 : Ref sig .tc := ⟨.hbm, 269, rfl⟩
abbrev main_while0b_call7_v1 : Ref sig .tc := ⟨.hbm, 270, rfl⟩
abbrev main_while0b_v163 : Ref sig .tc := ⟨.hbm, 271, rfl⟩
abbrev main_while0b_call8_v0 : Ref sig .tc := ⟨.hbm, 272, rfl⟩
abbrev main_while0b_call8_v1 : Ref sig .tc := ⟨.hbm, 273, rfl⟩
abbrev main_while0b_v164 : Ref sig .tc := ⟨.hbm, 274, rfl⟩
abbrev main_while0b_v165 : Ref sig .tc := ⟨.hbm, 275, rfl⟩
abbrev main_while0b_v166 : Ref sig .tc := ⟨.hbm, 276, rfl⟩
abbrev main_while0b_v167 : Ref sig .tc := ⟨.hbm, 277, rfl⟩
abbrev main_while0b_v168 : Ref sig .tc := ⟨.hbm, 278, rfl⟩
abbrev main_while0b_v169 : Ref sig .tc := ⟨.hbm, 279, rfl⟩
abbrev main_while0b_cst_43 : Ref sig .tc := ⟨.hbm, 280, rfl⟩
abbrev main_while0b_v170 : Ref sig .tc := ⟨.hbm, 281, rfl⟩
abbrev main_while0b_v171 : Ref sig .tc := ⟨.hbm, 282, rfl⟩
abbrev main_while0b_v172 : Ref sig .tc := ⟨.hbm, 283, rfl⟩
abbrev main_while0b_v173 : Ref sig .tc := ⟨.hbm, 284, rfl⟩
abbrev main_while0b_cst_44 : Ref sig .tc := ⟨.hbm, 285, rfl⟩
abbrev main_while0b_v174 : Ref sig .tc := ⟨.hbm, 286, rfl⟩
abbrev main_while0b_v175 : Ref sig .tc := ⟨.hbm, 287, rfl⟩
abbrev main_while0b_v176 : Ref sig .tc := ⟨.hbm, 288, rfl⟩
abbrev main_while0b_v177 : Ref sig .tc := ⟨.hbm, 289, rfl⟩
abbrev main_while0b_call9_v0 : Ref sig .tc := ⟨.hbm, 290, rfl⟩
abbrev main_while0b_call9_c : Ref sig .tc := ⟨.hbm, 291, rfl⟩
abbrev main_while0b_call9_c_0 : Ref sig .tc := ⟨.hbm, 292, rfl⟩
abbrev main_while0b_v178 : Ref sig .tc := ⟨.hbm, 293, rfl⟩
abbrev main_while0b_c_45 : Ref sig .tc := ⟨.hbm, 294, rfl⟩
abbrev main_while0b_v179 : Ref sig .tc := ⟨.hbm, 295, rfl⟩
abbrev main_v9 : Ref sig .tc := ⟨.hbm, 296, rfl⟩

abbrev nD : Nat := 1
abbrev τ : Topo := Topo.v7x

variable {F : FTy → Type} [FloatOps F]

abbrev main_while0_count : Scf.Loop 32 := ⟨0#32, 512#32, 1#32⟩
-- ==== Proof.Cell.lean ====
module

public import Idealize.ShloMosaic.Lib.Pointwise

@[expose] public section

set_option maxRecDepth 16384

noncomputable section

open Idealize.ShloMosaic

/-! The memory cell over the reals, one batch row at a time, and the facts that carry real arithmetic into the
    extended reals. -/

namespace Cert.Cell

/-- The small constant added to norms and to the shifted weights. -/
def eps : ℝ := (Ideal.ofBits .f32 0x2B8CBCCC#32).toReal
/-- The initial content of every memory slot. -/
def memInit : ℝ := (Ideal.ofBits .f32 0x3C23D70A#32).toReal

/-- The small constant is a positive real. -/
theorem eps_spec : Ideal.ofBits .f32 0x2B8CBCCC#32 = ((eps : ℝ) : EReal) ∧ 0 < eps := by
  have h : Ideal.ofBits .f32 0x2B8CBCCC#32 = ((9223372 / 9223372036854775808 : ℝ) : EReal) := by
    simp [Ideal.ofBits, Ideal.ieee, -EReal.coe_mul]; norm_num
  unfold eps
  rw [h, EReal.toReal_coe]
  exact ⟨rfl, by norm_num⟩
/-- The word of the small constant stands for that real number. -/
theorem eps_coe : Ideal.ofBits .f32 0x2B8CBCCC#32 = ((eps : ℝ) : EReal) := eps_spec.1
/-- The small constant is positive. -/
theorem eps_pos : 0 < eps := eps_spec.2

/-- The initial memory content is a real. -/
theorem memInit_coe : Ideal.ofBits .f32 0x3C23D70A#32 = ((memInit : ℝ) : EReal) := by
  have h : Ideal.ofBits .f32 0x3C23D70A#32 = ((10737418 / 1073741824 : ℝ) : EReal) := by
    simp [Ideal.ofBits, Ideal.ieee, -EReal.coe_mul]; norm_num
  unfold memInit
  rw [h, EReal.toReal_coe]

/-! ### Real functions -/

/-- The logistic function. -/
def sigm (x : ℝ) : ℝ := (1 + Real.exp (-x))⁻¹
/-- The softplus function in its stable form. -/
def splus (x : ℝ) : ℝ := max x 0 + Real.log (1 + Real.exp (-|x|))
/-- The softmax of a finite family. -/
def smax {n : ℕ} (v : Fin n → ℝ) (i : Fin n) : ℝ := Real.exp (v i) / ∑ k, Real.exp (v k)

/-- The logistic function is positive. -/
theorem sigm_pos (x : ℝ) : 0 < sigm x := by unfold sigm; positivity
/-- The logistic function stays below one. -/
theorem sigm_lt_one (x : ℝ) : sigm x < 1 := by
  unfold sigm
  exact inv_lt_one_of_one_lt₀ (by have := Real.exp_pos (-x); linarith)

/-- A sum of exponentials over a nonempty family is positive. -/
theorem sum_exp_pos {n : ℕ} (v : Fin (n + 1) → ℝ) : 0 < ∑ k, Real.exp (v k) :=
  Finset.sum_pos (fun k _ => Real.exp_pos _) Finset.univ_nonempty

/-- A softmax is never negative. -/
theorem smax_nonneg {n : ℕ} (v : Fin n → ℝ) (i : Fin n) : 0 ≤ smax v i :=
  div_nonneg (Real.exp_pos _).le (Finset.sum_nonneg fun k _ => (Real.exp_pos _).le)

/-- A softmax does not change when one number is subtracted from every entry. -/
theorem smax_shift {n : ℕ} (v : Fin n → ℝ) (r : ℝ) (i : Fin n) :
    Real.exp (v i - r) / ∑ k, Real.exp (v k - r) = smax v i := by
  unfold smax
  simp only [Real.exp_sub]
  rw [← Finset.sum_div, div_div_div_cancel_right₀ (Real.exp_pos r).ne']

/-- The three-entry softmax with its sum written out and the quotient taken first. -/
theorem smax3 (v : Fin 3 → ℝ) (r : ℝ) (i : Fin 3) :
    Real.exp (v i - r) * (1 / (Real.exp (v 0 - r) + Real.exp (v 1 - r) + Real.exp (v 2 - r))) = smax v i := by
  rw [← smax_shift v r i, Fin.sum_univ_three, mul_one_div]

/-! ### From the reals to the extended reals -/

/-- A sum of real numbers may be taken before or after passing to the extended reals. -/
theorem coe_sum {ι : Type} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- The maximum of a nonempty family of reals is a real. -/
theorem fold_max {n : ℕ} (v : Fin (n + 1) → ℝ) :
    ∃ r : ℝ, Finset.univ.fold max (⊥ : EReal) (fun k => ((v k : ℝ) : EReal)) = (r : EReal) := by
  refine ⟨_, (EReal.coe_toReal (x := Finset.univ.fold max (⊥ : EReal) (fun k => ((v k : ℝ) : EReal))) ?_ ?_).symm⟩
  · refine ne_of_lt ?_
    rw [Finset.fold_max_lt]
    exact ⟨bot_lt_top, fun k _ => EReal.coe_lt_top _⟩
  · refine (ne_of_lt ?_).symm
    rw [Finset.lt_fold_max]
    exact Or.inr ⟨0, Finset.mem_univ _, EReal.bot_lt_coe _⟩

/-- The larger of two real numbers may be taken before or after passing to the extended reals. -/
theorem coe_max (x y : ℝ) : max (x : EReal) (y : EReal) = ((max x y : ℝ) : EReal) :=
  (EReal.coe_strictMono.monotone.map_max).symm

/-- The quotient of two real numbers, the divisor not zero, is the real quotient. -/
theorem div_lift (x y : ℝ) (h : y ≠ 0) : Ideal.div (x : EReal) (y : EReal) = ((x / y : ℝ) : EReal) := by
  rw [Ideal.div_coe h, ← EReal.coe_mul, mul_one_div]

/-- One is the real number one. -/
theorem one_coe : (1 : EReal) = ((1 : ℝ) : EReal) := rfl
/-- Zero is the real number zero. -/
theorem zero_coe : (0 : EReal) = ((0 : ℝ) : EReal) := rfl

/-- The logistic of a real, as one over one plus the exponential of the negative. -/
theorem sigm_lift (x : ℝ) : Ideal.div (1 : EReal) (1 + Ideal.exp (-(x : EReal))) = ((sigm x : ℝ) : EReal) := by
  rw [← EReal.coe_neg, Ideal.exp_coe, one_coe, ← EReal.coe_add, div_lift _ _ (by positivity), sigm, one_div]

/-- The logistic function of a real number is the real one. -/
theorem logistic_lift (x : ℝ) : Ideal.logistic (x : EReal) = ((sigm x : ℝ) : EReal) := Ideal.logistic_coe x

/-- The logistic of any extended real is one over one plus the exponential of the negative. -/
theorem logistic_any (x : EReal) : Ideal.div (1 : EReal) (1 + Ideal.exp (-x)) = Ideal.logistic x := by
  induction x using EReal.rec with
  | bot => simp [Ideal.logistic, Ideal.exp, Ideal.div]
  | coe r => rw [sigm_lift, logistic_lift]
  | top => simp [Ideal.logistic, Ideal.exp, Ideal.div]

/-- The logistic of any extended real is a real. -/
theorem logistic_real (x : EReal) : Ideal.logistic x = (((Ideal.logistic x).toReal : ℝ) : EReal) := by
  induction x using EReal.rec with
  | bot => rw [show Ideal.logistic ⊥ = 0 by simp [Ideal.logistic, Ideal.div, show (1 : EReal) + ⊤ = ⊤ from rfl]]; simp
  | coe r => rw [logistic_lift, EReal.toReal_coe]
  | top => rw [show Ideal.logistic ⊤ = 1 by simp [Ideal.logistic, Ideal.div]]; simp

/-- The larger of a real number and its negative is its absolute value. -/
theorem abs_lift (x : ℝ) : max (x : EReal) (-(x : EReal)) = ((|x| : ℝ) : EReal) := by
  rw [← EReal.coe_neg, coe_max]; rfl

/-- The stable softplus of a real. -/
theorem splus_lift (x : ℝ) :
    max (x : EReal) 0 + Ideal.log (1 + Ideal.exp (-(max (x : EReal) (-(x : EReal))))) = ((splus x : ℝ) : EReal) := by
  have h : ¬ (1 + Real.exp (-|x|) ≤ 0) := by have := Real.exp_pos (-|x|); linarith
  rw [abs_lift, ← EReal.coe_neg, Ideal.exp_coe, one_coe, zero_coe, coe_max, ← EReal.coe_add, Ideal.log_coe, if_neg h,
    ← EReal.coe_add, splus]

/-! ### The cell -/

/-- The neighbouring address above, around the end. -/
def up (a : Fin 512) : Fin 512 := if h : a.val < 511 then ⟨1 + a.val, by omega⟩ else ⟨a.val - 511, by omega⟩
/-- The neighbouring address below, around the end. -/
def dn (a : Fin 512) : Fin 512 := if h : a.val < 1 then ⟨511 + a.val, by omega⟩ else ⟨a.val - 1, by omega⟩

/-- A value at the neighbour above, by cases. -/
theorem up_at (f : Fin 512 → ℝ) (a : Fin 512) :
    (if h : a.val < 511 then ((f ⟨1 + a.val, by omega⟩ : ℝ) : EReal) else ((f ⟨a.val - 511, by omega⟩ : ℝ) : EReal))
      = ((f (up a) : ℝ) : EReal) := by
  by_cases h : a.val < 511
  · rw [dif_pos h, up, dif_pos h]
  · rw [dif_neg h, up, dif_neg h]
/-- A value at the neighbour below, by cases. -/
theorem dn_at (f : Fin 512 → ℝ) (a : Fin 512) :
    (if h : a.val < 1 then ((f ⟨511 + a.val, by omega⟩ : ℝ) : EReal) else ((f ⟨a.val - 1, by omega⟩ : ℝ) : EReal))
      = ((f (dn a) : ℝ) : EReal) := by
  by_cases h : a.val < 1
  · rw [dif_pos h, dn, dif_pos h]
  · rw [dif_neg h, dn, dif_neg h]

section
variable (u : Fin 4 → Fin 106 → ℝ) (w d : Fin 4 → Fin 512 → ℝ) (M : Fin 32 → Fin 512 → ℝ)

/-- Softplus of the three shift scores. -/
def sraw (h : Fin 4) (i : Fin 3) : ℝ := splus (u h ⟨i.val, by omega⟩)
/-- The shift distribution. -/
def sft (h : Fin 4) (i : Fin 3) : ℝ := smax (sraw u h) i
/-- The gate of the dynamic weights. -/
def jd (h : Fin 4) : ℝ := sigm (u h 3)
/-- The three jump scores. -/
def jraw (h : Fin 4) (i : Fin 3) : ℝ := u h ⟨4 + i.val, by omega⟩
/-- The jump distribution. -/
def jj (h : Fin 4) (i : Fin 3) : ℝ := smax (jraw u h) i
/-- The sharpening exponent. -/
def gam (h : Fin 4) : ℝ := 1 + splus (u h 7)
/-- The erase vector. -/
def ers (h : Fin 4) (m : Fin 32) : ℝ := sigm (u h ⟨8 + m.val, by omega⟩)
/-- The add vector. -/
def ad (h : Fin 4) (m : Fin 32) : ℝ := u h ⟨40 + m.val, by omega⟩
/-- The key. -/
def key (h : Fin 4) (m : Fin 32) : ℝ := Real.tanh (u h ⟨72 + m.val, by omega⟩)
/-- The key strength. -/
def bet (h : Fin 4) : ℝ := splus (u h 104)
/-- The content gate. -/
def gat (h : Fin 4) : ℝ := sigm (u h 105)

/-- The new dynamic weights. -/
def dnew (h : Fin 4) (a : Fin 512) : ℝ := (1 - jd u h) * d h a + jd u h * w h a
/-- The weights after the jump. -/
def wj (h : Fin 4) (a : Fin 512) : ℝ :=
  jj u h 0 * w h a + jj u h 1 * dnew u w d h a + jj u h 2 * (if a.val = 0 then 1 else 0)
/-- The new memory. -/
def mnew (m : Fin 32) (a : Fin 512) : ℝ :=
  M m a * (∏ h, (1 - ers u h m * wj u w d h a)) + ∑ h, ad u h m * wj u w d h a
/-- The norm of a key plus the small constant. -/
def knorm (h : Fin 4) : ℝ := Real.sqrt (∑ m, key u h m * key u h m) + eps
/-- The norm of a memory slot plus the small constant. -/
def mnorm (a : Fin 512) : ℝ := Real.sqrt (∑ m, mnew u w d M m a * mnew u w d M m a) + eps
/-- The scaled similarity of a key with a memory slot. -/
def score (h : Fin 4) (a : Fin 512) : ℝ :=
  bet u h * ∑ m, key u h m / knorm u h * (mnew u w d M m a / mnorm u w d M a)
/-- The weights after content addressing. -/
def wc (h : Fin 4) (a : Fin 512) : ℝ :=
  gat u h * smax (score u w d M h) a + (1 - gat u h) * wj u w d h a
/-- The weights after the shift, plus the small constant. -/
def ws (h : Fin 4) (a : Fin 512) : ℝ :=
  sft u h 0 * wc u w d M h (up a) + sft u h 1 * wc u w d M h a + sft u h 2 * wc u w d M h (dn a) + eps
/-- The exponent of the sharpened weights. -/
def sharp (h : Fin 4) (a : Fin 512) : ℝ := gam u h * Real.log (ws u w d M h a)
/-- The new weights. -/
def wnew (h : Fin 4) (a : Fin 512) : ℝ := smax (sharp u w d M h) a

variable {w d}

/-- The new dynamic weights are not negative. -/
theorem dnew_nonneg (hw : ∀ h a, 0 ≤ w h a) (hd : ∀ h a, 0 ≤ d h a) (h : Fin 4) (a : Fin 512) : 0 ≤ dnew u w d h a :=
  add_nonneg (mul_nonneg (by have := sigm_lt_one (u h 3); unfold jd; linarith) (hd h a))
    (mul_nonneg (sigm_pos _).le (hw h a))

/-- The weights after the jump are not negative. -/
theorem wj_nonneg (hw : ∀ h a, 0 ≤ w h a) (hd : ∀ h a, 0 ≤ d h a) (h : Fin 4) (a : Fin 512) : 0 ≤ wj u w d h a :=
  add_nonneg (add_nonneg (mul_nonneg (smax_nonneg _ _) (hw h a)) (mul_nonneg (smax_nonneg _ _) (dnew_nonneg u hw hd h a)))
    (mul_nonneg (smax_nonneg _ _) (by split_ifs <;> norm_num))

/-- The weights after content addressing are not negative. -/
theorem wc_nonneg (hw : ∀ h a, 0 ≤ w h a) (hd : ∀ h a, 0 ≤ d h a) (h : Fin 4) (a : Fin 512) : 0 ≤ wc u w d M h a :=
  add_nonneg (mul_nonneg (sigm_pos _).le (smax_nonneg _ _))
    (mul_nonneg (by have := sigm_lt_one (u h 105); unfold gat; linarith) (wj_nonneg u hw hd h a))

/-- The shifted weights are positive. -/
theorem ws_pos (hw : ∀ h a, 0 ≤ w h a) (hd : ∀ h a, 0 ≤ d h a) (h : Fin 4) (a : Fin 512) : 0 < ws u w d M h a :=
  add_pos_of_nonneg_of_pos (add_nonneg (add_nonneg (mul_nonneg (smax_nonneg _ _) (wc_nonneg u M hw hd h _))
    (mul_nonneg (smax_nonneg _ _) (wc_nonneg u M hw hd h _))) (mul_nonneg (smax_nonneg _ _) (wc_nonneg u M hw hd h _))) eps_pos

/-- The norm of a key plus the small constant is positive. -/
theorem knorm_pos (h : Fin 4) : 0 < knorm u h := add_pos_of_nonneg_of_pos (Real.sqrt_nonneg _) eps_pos
/-- The norm of a memory slot plus the small constant is positive. -/
theorem mnorm_pos (a : Fin 512) : 0 < mnorm u w d M a := add_pos_of_nonneg_of_pos (Real.sqrt_nonneg _) eps_pos

end

/-- What one batch row carries from step to step. -/
structure Carry where
  s : Fin 256 → ℝ
  w : Fin 4 → Fin 512 → ℝ
  d : Fin 4 → Fin 512 → ℝ
  M : Fin 32 → Fin 512 → ℝ

/-- The weights: three real matrices, the real bias of the update, the two other biases. -/
structure Par where
  Ws : Fin 642 → Fin 256 → ℝ
  Wo : Fin 642 → Fin 256 → ℝ
  Wu : Fin 642 → Fin 424 → ℝ
  bu : Fin 424 → ℝ
  bs : Fin 256 → EReal
  bo : Fin 256 → EReal

/-- What the heads read from the memory. -/
def rd (w : Fin 4 → Fin 512 → ℝ) (M : Fin 32 → Fin 512 → ℝ) (j : Fin 128) : ℝ :=
  ∑ a, w ⟨j.val / 32, by omega⟩ a * M ⟨j.val % 32, by omega⟩ a

/-- The linear form of the input, the state and the read vectors with one column of a matrix. -/
def lin (x : Fin 258 → ℝ) (s : Fin 256 → ℝ) (r : Fin 128 → ℝ) (W : Fin 642 → ℝ) : ℝ :=
  (∑ k : Fin 258, x k * W ⟨k.val, by omega⟩) + (∑ k : Fin 256, s k * W ⟨258 + k.val, by omega⟩)
    + ∑ k : Fin 128, r k * W ⟨514 + k.val, by omega⟩

/-- The linear form of one row with a column. -/
def Carry.lin (c : Carry) (x : Fin 258 → ℝ) (W : Fin 642 → ℝ) : ℝ := Cell.lin x c.s (rd c.w c.M) W

/-- The update parameters of the heads. -/
def upd (P : Par) (x : Fin 258 → ℝ) (c : Carry) (h : Fin 4) (p : Fin 106) : ℝ :=
  c.lin x (fun k => P.Wu k ⟨h.val * 106 + p.val, by omega⟩) + P.bu ⟨h.val * 106 + p.val, by omega⟩

/-- One step of one row. -/
def step (P : Par) (x : Fin 258 → ℝ) (c : Carry) : Carry where
  s j := (Ideal.logistic (((c.lin x (fun k => P.Ws k j) : ℝ) : EReal) + P.bs j)).toReal
  w := wnew (upd P x c) c.w c.d c.M
  d := dnew (upd P x c) c.w c.d
  M := mnew (upd P x c) c.w c.d c.M

/-- The output of one step of one row. -/
def outv (P : Par) (x : Fin 258 → ℝ) (c : Carry) (j : Fin 256) : EReal :=
  ((c.lin x (fun k => P.Wo k j) : ℝ) : EReal) + P.bo j

/-- Weights that are never negative. -/
def Carry.ok (c : Carry) : Prop := (∀ h a, 0 ≤ c.w h a) ∧ ∀ h a, 0 ≤ c.d h a

/-- A step keeps the weights from being negative. -/
theorem step_ok (P : Par) (x : Fin 258 → ℝ) (c : Carry) (hc : c.ok) : (step P x c).ok :=
  ⟨fun _ _ => smax_nonneg _ _, fun h a => dnew_nonneg _ hc.1 hc.2 h a⟩

/-- What every row starts from. -/
def init : Carry where
  s _ := 1
  w _ a := if a.val = 0 then 1 else 0
  d _ a := if a.val = 0 then 1 else 0
  M _ _ := memInit

/-- The weights at the start are not negative. -/
theorem init_ok : init.ok :=
  ⟨fun _ a => by unfold init; dsimp only; split_ifs <;> norm_num, fun _ a => by unfold init; dsimp only; split_ifs <;> norm_num⟩

/-- What a row carries after some steps. -/
def run (P : Par) (X : ℕ → Fin 258 → ℝ) : ℕ → Carry
  | 0 => init
  | n + 1 => step P (X n) (run P X n)

/-- After any number of steps the weights are not negative. -/
theorem run_ok (P : Par) (X : ℕ → Fin 258 → ℝ) : ∀ n, (run P X n).ok
  | 0 => init_ok
  | n + 1 => step_ok P (X n) _ (run_ok P X n)

/-- One row's inputs in the order of time. -/
def seq (X : Fin 512 → Fin 32 → Fin 258 → ℝ) (b : Fin 32) (n : ℕ) : Fin 258 → ℝ :=
  if h : n < 512 then X ⟨n, h⟩ b else 0

/-- The rows after some steps from the start. -/
def rows (P : Par) (X : Fin 512 → Fin 32 → Fin 258 → ℝ) (n : ℕ) (b : Fin 32) : Carry := run P (seq X b) n

/-- One more step of every row. -/
theorem rows_succ (P : Par) (X : Fin 512 → Fin 32 → Fin 258 → ℝ) (n : Fin 512) (b : Fin 32) :
    rows P X (n.val + 1) b = step P (X n b) (rows P X n.val b) := by
  show step P (seq X b n.val) _ = _
  rw [seq, dif_pos n.isLt]
  rfl

/-- After any number of steps the weights of every row are not negative. -/
theorem rows_ok (P : Par) (X : Fin 512 → Fin 32 → Fin 258 → ℝ) (n : ℕ) (b : Fin 32) : (rows P X n b).ok := run_ok _ _ _

/-- The arguments hold the real inputs, the real weights and the biases. -/
structure Args (P : Par) (X : Fin 512 → Fin 32 → Fin 258 → ℝ) (a0 : Vec Ideal ⟨3, ![32, 512, 258]⟩ .f32)
    (a2 : Vec Ideal ⟨2, ![642, 256]⟩ .f32) (a3 : Vec Ideal ⟨1, ![256]⟩ .f32) (a4 : Vec Ideal ⟨2, ![642, 256]⟩ .f32)
    (a5 : Vec Ideal ⟨1, ![256]⟩ .f32) (a6 : Vec Ideal ⟨2, ![642, 424]⟩ .f32) (a7 : Vec Ideal ⟨1, ![424]⟩ .f32) : Prop where
  xs : ∀ (b : Fin 32) (t : Fin 512) (k : Fin 258), a0 (ix3 b t k) = ((X t b k : ℝ) : EReal)
  Ws : ∀ (k : Fin 642) (j : Fin 256), a2 (ix2 k j) = ((P.Ws k j : ℝ) : EReal)
  bs : ∀ j : Fin 256, a3 (ix1 j) = P.bs j
  Wo : ∀ (k : Fin 642) (j : Fin 256), a4 (ix2 k j) = ((P.Wo k j : ℝ) : EReal)
  bo : ∀ j : Fin 256, a5 (ix1 j) = P.bo j
  Wu : ∀ (k : Fin 642) (j : Fin 424), a6 (ix2 k j) = ((P.Wu k j : ℝ) : EReal)
  bu : ∀ j : Fin 424, a7 (ix1 j) = ((P.bu j : ℝ) : EReal)

/-- Arguments with finite entries hold real inputs and weights. -/
theorem Args.of_finite {a0 : Vec Ideal ⟨3, ![32, 512, 258]⟩ .f32}
    {a2 : Vec Ideal ⟨2, ![642, 256]⟩ .f32} {a3 : Vec Ideal ⟨1, ![256]⟩ .f32} {a4 : Vec Ideal ⟨2, ![642, 256]⟩ .f32}
    {a5 : Vec Ideal ⟨1, ![256]⟩ .f32} {a6 : Vec Ideal ⟨2, ![642, 424]⟩ .f32} {a7 : Vec Ideal ⟨1, ![424]⟩ .f32}
    (h0 : ∀ i, ∃ r : ℝ, a0 i = (r : EReal)) (h2 : ∀ i, ∃ r : ℝ, a2 i = (r : EReal)) (h4 : ∀ i, ∃ r : ℝ, a4 i = (r : EReal))
    (h6 : ∀ i, ∃ r : ℝ, a6 i = (r : EReal)) (h7 : ∀ i, ∃ r : ℝ, a7 i = (r : EReal)) :
    ∃ P X, Args P X a0 a2 a3 a4 a5 a6 a7 := by
  choose f0 e0 using h0
  choose f2 e2 using h2
  choose f4 e4 using h4
  choose f6 e6 using h6
  choose f7 e7 using h7
  exact ⟨⟨fun k j => f2 (ix2 k j), fun k j => f4 (ix2 k j), fun k j => f6 (ix2 k j), fun j => f7 (ix1 j), fun j => a3 (ix1 j), fun j => a5 (ix1 j)⟩,
    fun t b k => f0 (ix3 b t k), fun _ _ _ => e0 _, fun _ _ => e2 _, fun _ => rfl, fun _ _ => e4 _, fun _ => rfl, fun _ _ => e6 _, fun _ => e7 _⟩

end Cert.Cell
-- ==== Proof.KMath.lean ====
module

public import proofs.«01_k».proof.Proof.Gen.KernelIdeal.Skeleton
public import proofs.«01_k».proof.Proof.Cell

@[expose] public section

set_option maxRecDepth 16384

noncomputable section

open Idealize.ShloMosaic Idealize.ShloMosaic.TcCoe Idealize.SL.Sem
open Cert.KernelIdeal Cert.KernelIdeal.Gen

/-! What the kernel's step computes on real data is the cell's step: one lemma per stored or passed vector. -/

namespace Cert.KMath
open Cert.Cell

/-- The select on "address zero". -/
theorem sel_zero (a : Fin 512) (x y : EReal) :
    Scalar.select (IntOp.cmpi CmpIPredicate.eq (BitVec.ofNat 32 a.val) 0#32) x y = if a.val = 0 then x else y := by
  by_cases h : a.val = 0
  · rw [if_pos h, h]; rfl
  · have hc : IntOp.cmpi CmpIPredicate.eq (BitVec.ofNat 32 a.val) 0#32 = 0#1 := by
      have : BitVec.ofNat 32 a.val ≠ 0#32 := fun e => h (by
        have := congrArg BitVec.toNat e
        simp only [BitVec.toNat_ofNat] at this
        omega)
      simp only [IntOp.cmpi, beq_eq_false_iff_ne.2 this]; rfl
    rw [if_neg h, hc]; rfl

/-- The kernel's softplus of a real. -/
theorem sp_lift (x : ℝ) (y : EReal) :
    (if (x : EReal) ≠ (x : EReal) then y
      else max (x : EReal) 0 + Ideal.log1p (Ideal.exp (0 - FloatOps.absf (F := Ideal) (φ := .f32) (x : EReal)))) = ((splus x : ℝ) : EReal) := by
  rw [if_neg (fun h => h rfl), zero_sub, ← splus_lift]
  rfl

/-- Minus infinity as printed. -/
theorem ninf : Ideal.ofBits FTy.f32 4286578688#32 = (⊥ : EReal) := by
  simp [Ideal.ofBits, Ideal.ieee]

/-! ### The linear part -/

section lin
variable (c : Fin 32 → Carry) (x : Fin 32 → Fin 258 → ℝ) (A : Fin 642 → Fin 1024 → ℝ)
  (st : Vec Ideal S32x256 .f32) (wt wd : Vec Ideal S32x4x512 .f32) (mem : Vec Ideal S32x32x512 .f32)
  (x0 : Vec Ideal S1x32x258 .f32) (x1 x2 : Vec Ideal S258x1024 .bf16) (x3 x4 : Vec Ideal S256x1024 .bf16)
  (x5 x6 : Vec Ideal S128x1024 .bf16) (x7 : Vec Ideal S1x1024 .f32)

/-- The carried buffers hold the real rows. -/
structure Rep : Prop where
  s : ∀ (b : Fin 32) (j : Fin 256), st (ix2 b j) = (((c b).s j : ℝ) : EReal)
  w : ∀ (b : Fin 32) (h : Fin 4) (a : Fin 512), wt (ix3 b h a) = (((c b).w h a : ℝ) : EReal)
  d : ∀ (b : Fin 32) (h : Fin 4) (a : Fin 512), wd (ix3 b h a) = (((c b).d h a : ℝ) : EReal)
  M : ∀ (b : Fin 32) (m : Fin 32) (a : Fin 512), mem (ix3 b m a) = (((c b).M m a : ℝ) : EReal)

/-- The blocks of one step: the real inputs, the packed real weights as a whole part and a vanishing rest. -/
structure Blk : Prop where
  x : ∀ (b : Fin 32) (k : Fin 258), x0 (ix3 0 b k) = ((x b k : ℝ) : EReal)
  a : ∀ (k : Fin 258) (j : Fin 1024), x1 (ix2 k j) = ((A ⟨k.val, by omega⟩ j : ℝ) : EReal)
  a' : ∀ (k : Fin 258) (j : Fin 1024), x2 (ix2 k j) = ((0 : ℝ) : EReal)
  s : ∀ (k : Fin 256) (j : Fin 1024), x3 (ix2 k j) = ((A ⟨258 + k.val, by omega⟩ j : ℝ) : EReal)
  s' : ∀ (k : Fin 256) (j : Fin 1024), x4 (ix2 k j) = ((0 : ℝ) : EReal)
  r : ∀ (k : Fin 128) (j : Fin 1024), x5 (ix2 k j) = ((A ⟨514 + k.val, by omega⟩ j : ℝ) : EReal)
  r' : ∀ (k : Fin 128) (j : Fin 1024), x6 (ix2 k j) = ((0 : ℝ) : EReal)

/-- The pre-activations of one step, as the kernel computes them. -/
def zed : FVec Ideal S32x1024 .f32 :=
  k0_pay15 (F := Ideal) (k0_pay10 wt mem) (k0_pay11 x0 x1 x2) (k0_pay12 st) (k0_pay13 st) (k0_pay14 x3) x4 x5 x6 x7

variable {c x A st wt wd mem x0 x1 x2 x3 x4 x5 x6}

/-- Each pre-activation is the linear form with its packed column, plus its bias. -/
theorem zed_eq (hr : Rep c st wt wd mem) (hb : Blk x A x0 x1 x2 x3 x4 x5 x6) (b : Fin 32) (j : Fin 1024) :
    zed st wt mem x0 x1 x2 x3 x4 x5 x6 x7 (ix2 b j) = (((c b).lin (x b) (fun k => A k j) : ℝ) : EReal) + x7 (ix2 0 j) := by
  unfold zed
  pointwise [k0_pay15, k0_pay10, k0_pay11, k0_pay12, k0_pay13, k0_pay14, hr.s, hr.w, hr.M, hb.x, hb.a, hb.a', hb.s, hb.s',
    hb.r, hb.r']
  simp only [← EReal.coe_mul, ← EReal.coe_sub, coe_sum, ← EReal.coe_add]
  congr 2
  simp only [sub_self, zero_mul, mul_zero, Finset.sum_const_zero, add_zero]
  rfl

end lin

/-! ### The heads -/

/-- The pre-activations hold the update parameters of the heads. -/
structure Heads (u : Fin 32 → Fin 4 → Fin 106 → ℝ) (z : FVec Ideal S32x1024 .f32) : Prop where
  s0 : ∀ (b : Fin 32) (h : Fin 4), z (ix2 b ⟨512 + h.val, by omega⟩) = ((u b h 0 : ℝ) : EReal)
  s1 : ∀ (b : Fin 32) (h : Fin 4), z (ix2 b ⟨516 + h.val, by omega⟩) = ((u b h 1 : ℝ) : EReal)
  s2 : ∀ (b : Fin 32) (h : Fin 4), z (ix2 b ⟨520 + h.val, by omega⟩) = ((u b h 2 : ℝ) : EReal)
  jd : ∀ (b : Fin 32) (h : Fin 4), z (ix2 b ⟨524 + h.val, by omega⟩) = ((u b h 3 : ℝ) : EReal)
  j0 : ∀ (b : Fin 32) (h : Fin 4), z (ix2 b ⟨528 + h.val, by omega⟩) = ((u b h 4 : ℝ) : EReal)
  j1 : ∀ (b : Fin 32) (h : Fin 4), z (ix2 b ⟨532 + h.val, by omega⟩) = ((u b h 5 : ℝ) : EReal)
  j2 : ∀ (b : Fin 32) (h : Fin 4), z (ix2 b ⟨536 + h.val, by omega⟩) = ((u b h 6 : ℝ) : EReal)
  ga : ∀ (b : Fin 32) (h : Fin 4), z (ix2 b ⟨540 + h.val, by omega⟩) = ((u b h 7 : ℝ) : EReal)
  be : ∀ (b : Fin 32) (h : Fin 4), z (ix2 b ⟨544 + h.val, by omega⟩) = ((u b h 104 : ℝ) : EReal)
  gt : ∀ (b : Fin 32) (h : Fin 4), z (ix2 b ⟨548 + h.val, by omega⟩) = ((u b h 105 : ℝ) : EReal)
  er : ∀ (b : Fin 32) (h : Fin 4) (m : Fin 32),
    z (ix2 b ⟨640 + (h.val * 32 + m.val), by omega⟩) = ((u b h ⟨8 + m.val, by omega⟩ : ℝ) : EReal)
  ad : ∀ (b : Fin 32) (h : Fin 4) (m : Fin 32),
    z (ix2 b ⟨768 + (h.val * 32 + m.val), by omega⟩) = ((u b h ⟨40 + m.val, by omega⟩ : ℝ) : EReal)
  ke : ∀ (b : Fin 32) (h : Fin 4) (m : Fin 32),
    z (ix2 b ⟨896 + (h.val * 32 + m.val), by omega⟩) = ((u b h ⟨72 + m.val, by omega⟩ : ℝ) : EReal)

section heads
variable {u : Fin 32 → Fin 4 → Fin 106 → ℝ} {z : FVec Ideal S32x1024 .f32} (hz : Heads u z)
  {w d : Fin 32 → Fin 4 → Fin 512 → ℝ} {M : Fin 32 → Fin 32 → Fin 512 → ℝ}
  {wt wd : Vec Ideal S32x4x512 .f32} {mem : Vec Ideal S32x32x512 .f32}
include hz

/-- The kernel's second shift score. -/
theorem pay19 (b : Fin 32) (h : Fin 4) : k0_pay19 (F := Ideal) z (ix2 b h) = ((sraw (u b) h 1 : ℝ) : EReal) := by
  pointwise [k0_pay19, hz.s1]
  exact sp_lift _ _
/-- The kernel's third shift score. -/
theorem pay20 (b : Fin 32) (h : Fin 4) : k0_pay20 (F := Ideal) z (ix2 b h) = ((sraw (u b) h 2 : ℝ) : EReal) := by
  pointwise [k0_pay20, hz.s2]
  exact sp_lift _ _

section shift
variable {v75 : FVec Ideal S32x4 .f32} (h75 : ∀ (b : Fin 32) (h : Fin 4), v75 (ix2 b h) = ((sraw (u b) h 0 : ℝ) : EReal))
include h75

/-- The kernel's first shift weight. -/
theorem pay26 (b : Fin 32) (h : Fin 4) : k0_pay26 (F := Ideal) z v75 (ix3 b h 0) = ((sft (u b) h 0 : ℝ) : EReal) := by
  pointwise [k0_pay26, k0_pay25, k0_pay24, k0_pay23, k0_pay22, k0_pay21, pay19 hz, pay20 hz, h75]
  simp only [coe_max, ← EReal.coe_sub, Ideal.exp_coe, ← EReal.coe_add, one_coe]
  rw [div_lift _ _ (by positivity), ← EReal.coe_mul, smax3]; rfl
/-- The kernel's second shift weight. -/
theorem pay27 (b : Fin 32) (h : Fin 4) : k0_pay27 (F := Ideal) z v75 (ix3 b h 0) = ((sft (u b) h 1 : ℝ) : EReal) := by
  pointwise [k0_pay27, k0_pay25, k0_pay24, k0_pay23, k0_pay22, k0_pay21, pay19 hz, pay20 hz, h75]
  simp only [coe_max, ← EReal.coe_sub, Ideal.exp_coe, ← EReal.coe_add, one_coe]
  rw [div_lift _ _ (by positivity), ← EReal.coe_mul, smax3]; rfl
/-- The kernel's third shift weight. -/
theorem pay28 (b : Fin 32) (h : Fin 4) : k0_pay28 (F := Ideal) z v75 (ix3 b h 0) = ((sft (u b) h 2 : ℝ) : EReal) := by
  pointwise [k0_pay28, k0_pay25, k0_pay24, k0_pay23, k0_pay22, k0_pay21, pay19 hz, pay20 hz, h75]
  simp only [coe_max, ← EReal.coe_sub, Ideal.exp_coe, ← EReal.coe_add, one_coe]
  rw [div_lift _ _ (by positivity), ← EReal.coe_mul, smax3]; rfl
end shift

/-- The kernel's gate of the dynamic weights. -/
theorem pay29 (b : Fin 32) (h : Fin 4) : k0_pay29 (F := Ideal) z (ix3 b h 0) = ((Cell.jd (u b) h : ℝ) : EReal) := by
  pointwise [k0_pay29, hz.jd]
  exact logistic_lift _
/-- The kernel's first jump weight. -/
theorem pay39 (b : Fin 32) (h : Fin 4) :
    k0_pay39 (F := Ideal) (k0_pay30 z) (k0_pay31 z) (k0_pay32 z) (k0_pay33 z) (ix3 b h 0) = ((jj (u b) h 0 : ℝ) : EReal) := by
  pointwise [k0_pay39, k0_pay38, k0_pay37, k0_pay36, k0_pay35, k0_pay34, k0_pay33, k0_pay32, k0_pay31, k0_pay30, hz.j0, hz.j1, hz.j2]
  simp only [coe_max, ← EReal.coe_sub, Ideal.exp_coe, ← EReal.coe_add, one_coe]
  rw [div_lift _ _ (by positivity), ← EReal.coe_mul]
  exact congrArg _ (smax3 (jraw (u b) h) _ 0)
/-- The kernel's second jump weight. -/
theorem pay40 (b : Fin 32) (h : Fin 4) :
    k0_pay40 (F := Ideal) (k0_pay30 z) (k0_pay31 z) (k0_pay32 z) (k0_pay33 z) (ix3 b h 0) = ((jj (u b) h 1 : ℝ) : EReal) := by
  pointwise [k0_pay40, k0_pay38, k0_pay37, k0_pay36, k0_pay35, k0_pay34, k0_pay33, k0_pay32, k0_pay31, k0_pay30, hz.j0, hz.j1, hz.j2]
  simp only [coe_max, ← EReal.coe_sub, Ideal.exp_coe, ← EReal.coe_add, one_coe]
  rw [div_lift _ _ (by positivity), ← EReal.coe_mul]
  exact congrArg _ (smax3 (jraw (u b) h) _ 1)
/-- The kernel's third jump weight. -/
theorem pay41 (b : Fin 32) (h : Fin 4) :
    k0_pay41 (F := Ideal) (k0_pay30 z) (k0_pay31 z) (k0_pay32 z) (k0_pay33 z) (ix3 b h 0) = ((jj (u b) h 2 : ℝ) : EReal) := by
  pointwise [k0_pay41, k0_pay38, k0_pay37, k0_pay36, k0_pay35, k0_pay34, k0_pay33, k0_pay32, k0_pay31, k0_pay30, hz.j0, hz.j1, hz.j2]
  simp only [coe_max, ← EReal.coe_sub, Ideal.exp_coe, ← EReal.coe_add, one_coe]
  rw [div_lift _ _ (by positivity), ← EReal.coe_mul]
  exact congrArg _ (smax3 (jraw (u b) h) _ 2)
/-- The kernel's sharpening exponent. -/
theorem pay42 (b : Fin 32) (h : Fin 4) : k0_pay42 (F := Ideal) z (ix3 b h 0) = ((gam (u b) h : ℝ) : EReal) := by
  pointwise [k0_pay42, hz.ga]
  rw [sp_lift, one_coe, ← EReal.coe_add]; rfl
/-- The kernel's key strength. -/
theorem pay43 (b : Fin 32) (h : Fin 4) : k0_pay43 (F := Ideal) z (ix3 b h 0) = ((bet (u b) h : ℝ) : EReal) := by
  pointwise [k0_pay43, hz.be]
  exact sp_lift _ _
/-- The kernel's content gate. -/
theorem pay44 (b : Fin 32) (h : Fin 4) : k0_pay44 (F := Ideal) z (ix3 b h 0) = ((gat (u b) h : ℝ) : EReal) := by
  pointwise [k0_pay44, hz.gt]
  exact logistic_lift _
/-- The kernel's key. -/
theorem pay45 (b : Fin 32) (h : Fin 4) (m : Fin 32) :
    k0_pay45 (F := Ideal) z (ix3 b h m) = ((key (u b) h m : ℝ) : EReal) := by
  pointwise [k0_pay45, hz.ke]
  exact Ideal.tanh_coe _
/-- The kernel's erase vector, turned. -/
theorem pay48 (b : Fin 32) (m : Fin 32) (h : Fin 4) :
    k0_pay48 (F := Ideal) z (ix3 b m h) = ((ers (u b) h m : ℝ) : EReal) := by
  pointwise [k0_pay48, hz.er]
  exact logistic_lift _
/-- The kernel's add vector, turned. -/
theorem pay49 (b : Fin 32) (m : Fin 32) (h : Fin 4) :
    k0_pay49 (F := Ideal) z (ix3 b m h) = ((Cell.ad (u b) h m : ℝ) : EReal) := by
  pointwise [k0_pay49, hz.ad]
  rfl
/-- The kernel's normalised key. -/
theorem pay58 (b : Fin 32) (h : Fin 4) (m : Fin 32) :
    k0_pay58 (F := Ideal) (k0_pay45 z) (ix3 b h m) = ((key (u b) h m / knorm (u b) h : ℝ) : EReal) := by
  pointwise [k0_pay58, pay45 hz, eps_coe]
  simp only [← EReal.coe_mul, coe_sum, Ideal.sqrt_coe]
  rw [if_neg (not_lt.2 (Finset.sum_nonneg fun i _ => mul_self_nonneg _)), ← EReal.coe_add]
  exact div_lift _ _ (knorm_pos (u b) h).ne'

section weights
variable (hw : ∀ (b : Fin 32) (h : Fin 4) (a : Fin 512), wt (ix3 b h a) = ((w b h a : ℝ) : EReal))
  (hd : ∀ (b : Fin 32) (h : Fin 4) (a : Fin 512), wd (ix3 b h a) = ((d b h a : ℝ) : EReal))
  (hM : ∀ (b : Fin 32) (m : Fin 32) (a : Fin 512), mem (ix3 b m a) = ((M b m a : ℝ) : EReal))

section
include hw hd
/-- The kernel's new dynamic weights. -/
theorem pay46 (b : Fin 32) (h : Fin 4) (a : Fin 512) :
    k0_pay46 (F := Ideal) wt wd (k0_pay29 z) (ix3 b h a) = ((dnew (u b) (w b) (d b) h a : ℝ) : EReal) := by
  pointwise [k0_pay46, pay29 hz, hw, hd]
  simp only [one_coe, ← EReal.coe_mul, ← EReal.coe_sub, ← EReal.coe_add]
  rfl

/-- The weights after the jump, as the kernel composes them. -/
def kwj (z : FVec Ideal S32x1024 .f32) (wt wd : Vec Ideal S32x4x512 .f32) : FVec Ideal S32x4x512 .f32 :=
  k0_pay47 (F := Ideal) wt wd (k0_pay29 z) (k0_pay39 (k0_pay30 z) (k0_pay31 z) (k0_pay32 z) (k0_pay33 z))
    (k0_pay40 (k0_pay30 z) (k0_pay31 z) (k0_pay32 z) (k0_pay33 z)) (k0_pay41 (k0_pay30 z) (k0_pay31 z) (k0_pay32 z) (k0_pay33 z))

/-- The kernel's weights after the jump. -/
theorem pay47 (b : Fin 32) (h : Fin 4) (a : Fin 512) :
    kwj z wt wd (ix3 b h a) = ((wj (u b) (w b) (d b) h a : ℝ) : EReal) := by
  unfold kwj
  pointwise [k0_pay47, pay46 hz hw hd, pay39 hz, pay40 hz, pay41 hz, hw]
  rw [sel_zero]
  simp only [← EReal.coe_mul, ← EReal.coe_add, zero_coe]
  rw [← apply_ite Real.toEReal, ← EReal.coe_add]
  refine congrArg _ ?_
  unfold wj
  split_ifs <;> simp
end

/-- The new memory, as the kernel composes it. -/
def kmem (z : FVec Ideal S32x1024 .f32) (wt wd : Vec Ideal S32x4x512 .f32) (mem : Vec Ideal S32x32x512 .f32) :
    FVec Ideal S32x32x512 .f32 :=
  let v126 := k0_pay29 (F := Ideal) z
  let v143 := k0_pay39 (F := Ideal) (k0_pay30 z) (k0_pay31 z) (k0_pay32 z) (k0_pay33 z)
  let v145 := k0_pay40 (F := Ideal) (k0_pay30 z) (k0_pay31 z) (k0_pay32 z) (k0_pay33 z)
  let v147 := k0_pay41 (F := Ideal) (k0_pay30 z) (k0_pay31 z) (k0_pay32 z) (k0_pay33 z)
  k0_pay56 (F := Ideal) mem (kwj z wt wd) (k0_pay48 z) (k0_pay49 z) (k0_pay51 wt wd z v126 v143 v145 v147)
    (k0_pay52 wt wd z v126 v143 v145 v147) (k0_pay53 wt wd v126 v143 v145 v147) (k0_pay54 wt wd z v126 v143 v145 v147) k0_pay55

include hw hd hM

/-- The kernel's new memory. -/
theorem pay56 (b : Fin 32) (m : Fin 32) (a : Fin 512) :
    kmem z wt wd mem (ix3 b m a) = ((mnew (u b) (w b) (d b) (M b) m a : ℝ) : EReal) := by
  have h47 := pay47 hz hw hd
  unfold kwj at h47
  unfold kmem kwj
  pointwise [k0_pay56, k0_pay55, k0_pay54, k0_pay53, k0_pay52, k0_pay51, k0_pay50, h47, pay48 hz, pay49 hz, hM]
  simp only [one_coe, zero_coe, ← EReal.coe_mul, ← EReal.coe_sub, ← EReal.coe_add]
  refine congrArg _ ?_
  unfold mnew
  rw [Fin.prod_univ_four, Fin.sum_univ_four]

/-- The reciprocal norms of the memory slots. -/
theorem pay57 (b : Fin 32) (a : Fin 512) {v213 v214 v215 v224 v230 v231 v235 v236}
    (hk : k0_pay56 (F := Ideal) mem v213 v214 v215 v224 v230 v231 v235 v236 = kmem z wt wd mem) :
    k0_pay57 (F := Ideal) mem v213 v214 v215 v224 v230 v231 v235 v236 (ix3 b 0 a)
      = ((1 / mnorm (u b) (w b) (d b) (M b) a : ℝ) : EReal) := by
  pointwise [k0_pay57, hk, pay56 hz hw hd hM, eps_coe]
  simp only [← EReal.coe_mul, coe_sum, Ideal.sqrt_coe]
  rw [if_neg (not_lt.2 (Finset.sum_nonneg fun i _ => mul_self_nonneg _)), ← EReal.coe_add, one_coe]
  exact div_lift _ _ (mnorm_pos (u b) (M b) a).ne'

end weights
end heads

end Cert.KMath
-- ==== Proof.KStep.lean ====
module

public import proofs.«01_k».proof.Proof.KMath

@[expose] public section

set_option maxRecDepth 16384

noncomputable section

open Idealize.ShloMosaic Idealize.ShloMosaic.TcCoe Idealize.SL.Sem
open Cert.KernelIdeal Cert.KernelIdeal.Gen

/-! The kernel's addressing (score, content gate, shift, sharpening), cut into four pieces, and its whole step. -/

namespace Cert.KMath
open Cert.Cell

/-- The scaled similarities. -/
def kscore (v181 : FVec Ideal S32x4x1 .f32) (v287 : FVec Ideal S32x1x512 .f32) (v288 : FVec Ideal S32x4x32 .bf16)
    (v289 : FVec Ideal S32x32x512 .bf16) : FVec Ideal S32x4x512 .f32 :=
  mulf (broadcastTo S32x4x512 v181 broadcasts_S32x4x1_S32x4x512)
    (mulf (matmul dot_S32x4x32_S32x32x512_S32x4x512_2_1_1_2_0_0 none v288 v289 (constant S32x4x512 .f32 0x00000000#32))
      (broadcastTo S32x4x512 v287 broadcasts_S32x1x512_S32x4x512))

/-- The softmax of the similarities, gated with the weights after the jump. -/
def kcont (v184 : FVec Ideal S32x4x1 .f32) (v213 sc : FVec Ideal S32x4x512 .f32) : FVec Ideal S32x4x512 .f32 :=
  let e := exp (subf sc (broadcastTo S32x4x512 (shapeCast S32x4x1 (maximumf (broadcast S32x4 (Scalar.ofBits .f32 0xFF800000#32))
    (multiReduction .maximumf [2] S32x4 sc 0xFF800000#32 reduces_S32x4x512_S32x4 (.inl rfl) rfl)) shapeCasts_S32x4_S32x4x1)
    broadcasts_S32x4x1_S32x4x512))
  addf (mulf (broadcastTo S32x4x512 v184 broadcasts_S32x4x1_S32x4x512)
      (divf e (broadcastTo S32x4x512 (shapeCast S32x4x1
        (multiReduction .add [2] S32x4 e 0x00000000#32 reduces_S32x4x512_S32x4 (.inl rfl) rfl) shapeCasts_S32x4_S32x4x1)
        broadcasts_S32x4x1_S32x4x512)))
    (mulf (broadcastTo S32x4x512 (subf (broadcast S32x4x1 (Scalar.ofBits .f32 0x3F800000#32)) v184) broadcasts_S32x4x1_S32x4x512) v213)

/-- The circular shift, plus the small constant. -/
def kshift (v119 v121 v123 : FVec Ideal S32x4x1 .f32) (v : FVec Ideal S32x4x512 .f32) : FVec Ideal S32x4x512 .f32 :=
  addf (addf (addf
    (mulf (broadcastTo S32x4x512 v119 broadcasts_S32x4x1_S32x4x512)
      (concatenate S32x4x512 2 [⟨S32x4x511, extractStridedSlice S32x4x511 ![0, 0, 1] v slices_S32x4x512_o0_0_1_S32x4x511⟩,
        ⟨S32x4x1, extractStridedSlice S32x4x1 ![0, 0, 0] v slices_S32x4x512_o0_0_0_S32x4x1⟩] concatenates_S32x4x511_S32x4x1_S32x4x512_d2))
    (mulf (broadcastTo S32x4x512 v121 broadcasts_S32x4x1_S32x4x512) v))
    (mulf (broadcastTo S32x4x512 v123 broadcasts_S32x4x1_S32x4x512)
      (concatenate S32x4x512 2 [⟨S32x4x1, extractStridedSlice S32x4x1 ![0, 0, 511] v slices_S32x4x512_o0_0_511_S32x4x1⟩,
        ⟨S32x4x511, extractStridedSlice S32x4x511 ![0, 0, 0] v slices_S32x4x512_o0_0_0_S32x4x511⟩] concatenates_S32x4x1_S32x4x511_S32x4x512_d2)))
    (broadcast S32x4x512 (Scalar.ofBits .f32 0x2B8CBCCC#32))

/-- The sharpening. -/
def ksharp (v165 : FVec Ideal S32x4x1 .f32) (v : FVec Ideal S32x4x512 .f32) : FVec Ideal S32x4x512 .f32 :=
  let e := exp (mulf (broadcastTo S32x4x512 v165 broadcasts_S32x4x1_S32x4x512) (log v))
  divf e (broadcastTo S32x4x512 (shapeCast S32x4x1
    (multiReduction .add [2] S32x4 e 0x00000000#32 reduces_S32x4x512_S32x4 (.inl rfl) rfl) shapeCasts_S32x4_S32x4x1)
    broadcasts_S32x4x1_S32x4x512)

/-- The kernel's payload is the four pieces in a row. -/
theorem pay60_eq (v119 v121 v123 v165 v181 v184 : FVec Ideal S32x4x1 .f32) (v213 : FVec Ideal S32x4x512 .f32)
    (v287 : FVec Ideal S32x1x512 .f32) (v288 : FVec Ideal S32x4x32 .bf16) (v289 : FVec Ideal S32x32x512 .bf16) :
    k0_pay60 v119 v121 v123 v165 v181 v184 v213 v287 v288 v289
      = ksharp v165 (kshift v119 v121 v123 (kcont v184 v213 (kscore v181 v287 v288 v289))) := rfl

/-- The scaled similarity of a key with a slot, from the key, the slot and the slot's inverse norm. -/
theorem kscore_eq {v181 : FVec Ideal S32x4x1 .f32} {v287 : FVec Ideal S32x1x512 .f32} {v288 : FVec Ideal S32x4x32 .bf16}
    {v289 : FVec Ideal S32x32x512 .bf16} {β : Fin 32 → Fin 4 → ℝ} {n : Fin 32 → Fin 512 → ℝ} {k : Fin 32 → Fin 4 → Fin 32 → ℝ}
    {m : Fin 32 → Fin 32 → Fin 512 → ℝ} (h1 : ∀ (b : Fin 32) (h : Fin 4), v181 (ix3 b h 0) = ((β b h : ℝ) : EReal))
    (h2 : ∀ (b : Fin 32) (a : Fin 512), v287 (ix3 b 0 a) = ((1 / n b a : ℝ) : EReal))
    (h3 : ∀ (b : Fin 32) (h : Fin 4) (i : Fin 32), v288 (ix3 b h i) = ((k b h i : ℝ) : EReal))
    (h4 : ∀ (b : Fin 32) (i : Fin 32) (a : Fin 512), v289 (ix3 b i a) = ((m b i a : ℝ) : EReal))
    (b : Fin 32) (h : Fin 4) (a : Fin 512) :
    kscore v181 v287 v288 v289 (ix3 b h a) = ((β b h * ∑ i, k b h i * (m b i a / n b a) : ℝ) : EReal) := by
  pointwise [kscore, h1, h2, h3, h4]
  simp only [← EReal.coe_mul, coe_sum]
  refine congrArg _ (congrArg _ ?_)
  rw [Finset.sum_mul]
  exact Finset.sum_congr rfl fun i _ => by ring

/-- The gated mixture of the content weights with the jumped weights. -/
theorem kcont_eq {v184 : FVec Ideal S32x4x1 .f32} {v213 sc : FVec Ideal S32x4x512 .f32} {g : Fin 32 → Fin 4 → ℝ}
    {wj s : Fin 32 → Fin 4 → Fin 512 → ℝ} (h1 : ∀ (b : Fin 32) (h : Fin 4), v184 (ix3 b h 0) = ((g b h : ℝ) : EReal))
    (h2 : ∀ (b : Fin 32) (h : Fin 4) (a : Fin 512), v213 (ix3 b h a) = ((wj b h a : ℝ) : EReal))
    (h3 : ∀ (b : Fin 32) (h : Fin 4) (a : Fin 512), sc (ix3 b h a) = ((s b h a : ℝ) : EReal))
    (b : Fin 32) (h : Fin 4) (a : Fin 512) :
    kcont v184 v213 sc (ix3 b h a) = ((g b h * smax (s b h) a + (1 - g b h) * wj b h a : ℝ) : EReal) := by
  pointwise [kcont, h1, h2, h3]
  obtain ⟨r, hr⟩ := fold_max (n := 511) (s b h)
  simp only [ninf, hr, max_eq_right bot_le, one_coe, ← EReal.coe_sub, Ideal.exp_coe, coe_sum]
  rw [div_lift _ _ (sum_exp_pos (n := 511) _).ne', smax_shift]
  simp only [← EReal.coe_mul, ← EReal.coe_add]

/-- The circular convolution of the weights with the shift distribution. -/
theorem kshift_eq {v119 v121 v123 : FVec Ideal S32x4x1 .f32} {v : FVec Ideal S32x4x512 .f32} {S : Fin 32 → Fin 4 → Fin 3 → ℝ}
    {wc : Fin 32 → Fin 4 → Fin 512 → ℝ} (h1 : ∀ (b : Fin 32) (h : Fin 4), v119 (ix3 b h 0) = ((S b h 0 : ℝ) : EReal))
    (h2 : ∀ (b : Fin 32) (h : Fin 4), v121 (ix3 b h 0) = ((S b h 1 : ℝ) : EReal))
    (h3 : ∀ (b : Fin 32) (h : Fin 4), v123 (ix3 b h 0) = ((S b h 2 : ℝ) : EReal))
    (h4 : ∀ (b : Fin 32) (h : Fin 4) (a : Fin 512), v (ix3 b h a) = ((wc b h a : ℝ) : EReal))
    (b : Fin 32) (h : Fin 4) (a : Fin 512) :
    kshift v119 v121 v123 v (ix3 b h a)
      = ((S b h 0 * wc b h (up a) + S b h 1 * wc b h a + S b h 2 * wc b h (dn a) + eps : ℝ) : EReal) := by
  pointwise [kshift, h1, h2, h3, h4, eps_coe]
  rw [up_at (wc b h), dn_at (wc b h)]
  simp only [← EReal.coe_mul, ← EReal.coe_add]

/-- Sharpening by the exponential of the scaled logarithm is a softmax of those logarithms. -/
theorem ksharp_eq {v165 : FVec Ideal S32x4x1 .f32} {v : FVec Ideal S32x4x512 .f32} {g : Fin 32 → Fin 4 → ℝ}
    {w : Fin 32 → Fin 4 → Fin 512 → ℝ} (h1 : ∀ (b : Fin 32) (h : Fin 4), v165 (ix3 b h 0) = ((g b h : ℝ) : EReal))
    (h2 : ∀ (b : Fin 32) (h : Fin 4) (a : Fin 512), v (ix3 b h a) = ((w b h a : ℝ) : EReal))
    (hp : ∀ (b : Fin 32) (h : Fin 4) (a : Fin 512), 0 < w b h a) (b : Fin 32) (h : Fin 4) (a : Fin 512) :
    ksharp v165 v (ix3 b h a) = ((smax (fun a => g b h * Real.log (w b h a)) a : ℝ) : EReal) := by
  pointwise [ksharp, h1, h2]
  simp only [Ideal.log_coe, if_neg (not_le.2 (hp b h _)), ← EReal.coe_mul, Ideal.exp_coe, coe_sum]
  exact div_lift _ _ (sum_exp_pos (n := 511) _).ne'

/-! ### The whole step -/

section step
variable {P : Par} {c : Fin 32 → Carry} {x : Fin 32 → Fin 258 → ℝ} {A : Fin 642 → Fin 1024 → ℝ}
  {st : Vec Ideal S32x256 .f32} {wt wd : Vec Ideal S32x4x512 .f32} {mem : Vec Ideal S32x32x512 .f32}
  {x0 : Vec Ideal S1x32x258 .f32} {x1 x2 : Vec Ideal S258x1024 .bf16} {x3 x4 : Vec Ideal S256x1024 .bf16}
  {x5 x6 : Vec Ideal S128x1024 .bf16} {x7 : Vec Ideal S1x1024 .f32}

/-- A packed column is a column of the update matrix, with its bias. -/
def Col (P : Par) (A : Fin 642 → Fin 1024 → ℝ) (x7 : Vec Ideal S1x1024 .f32) (j : Fin 1024) (p : Fin 424) : Prop :=
  (∀ k, A k j = P.Wu k p) ∧ x7 (ix2 0 j) = ((P.bu p : ℝ) : EReal)

/-- How the packed weights hold the three matrices and the three biases. -/
structure Pack (P : Par) (A : Fin 642 → Fin 1024 → ℝ) (x7 : Vec Ideal S1x1024 .f32) : Prop where
  ws : ∀ (j : Fin 256), (∀ k, A k ⟨j.val, by omega⟩ = P.Ws k j) ∧ x7 (ix2 0 ⟨j.val, by omega⟩) = P.bs j
  wo : ∀ (j : Fin 256), (∀ k, A k ⟨256 + j.val, by omega⟩ = P.Wo k j) ∧ x7 (ix2 0 ⟨256 + j.val, by omega⟩) = P.bo j
  s0 : ∀ (h : Fin 4), Col P A x7 ⟨512 + h.val, by omega⟩ ⟨h.val * 106 + 0, by omega⟩
  s1 : ∀ (h : Fin 4), Col P A x7 ⟨516 + h.val, by omega⟩ ⟨h.val * 106 + 1, by omega⟩
  s2 : ∀ (h : Fin 4), Col P A x7 ⟨520 + h.val, by omega⟩ ⟨h.val * 106 + 2, by omega⟩
  jd : ∀ (h : Fin 4), Col P A x7 ⟨524 + h.val, by omega⟩ ⟨h.val * 106 + 3, by omega⟩
  j0 : ∀ (h : Fin 4), Col P A x7 ⟨528 + h.val, by omega⟩ ⟨h.val * 106 + 4, by omega⟩
  j1 : ∀ (h : Fin 4), Col P A x7 ⟨532 + h.val, by omega⟩ ⟨h.val * 106 + 5, by omega⟩
  j2 : ∀ (h : Fin 4), Col P A x7 ⟨536 + h.val, by omega⟩ ⟨h.val * 106 + 6, by omega⟩
  ga : ∀ (h : Fin 4), Col P A x7 ⟨540 + h.val, by omega⟩ ⟨h.val * 106 + 7, by omega⟩
  be : ∀ (h : Fin 4), Col P A x7 ⟨544 + h.val, by omega⟩ ⟨h.val * 106 + 104, by omega⟩
  gt : ∀ (h : Fin 4), Col P A x7 ⟨548 + h.val, by omega⟩ ⟨h.val * 106 + 105, by omega⟩
  er : ∀ (h : Fin 4) (m : Fin 32), Col P A x7 ⟨640 + (h.val * 32 + m.val), by omega⟩ ⟨h.val * 106 + (8 + m.val), by omega⟩
  ad : ∀ (h : Fin 4) (m : Fin 32), Col P A x7 ⟨768 + (h.val * 32 + m.val), by omega⟩ ⟨h.val * 106 + (40 + m.val), by omega⟩
  ke : ∀ (h : Fin 4) (m : Fin 32), Col P A x7 ⟨896 + (h.val * 32 + m.val), by omega⟩ ⟨h.val * 106 + (72 + m.val), by omega⟩

section
variable (hr : Rep c st wt wd mem) (hb : Blk x A x0 x1 x2 x3 x4 x5 x6) (hp : Pack P A x7)
include hr hb hp

/-- The pre-activations hold the update parameters. -/
theorem heads : Heads (fun b => upd P (x b) (c b)) (zed st wt mem x0 x1 x2 x3 x4 x5 x6 x7) := by
  have key : ∀ (b : Fin 32) (h : Fin 4) (p : Fin 106) (j : Fin 1024), Col P A x7 j ⟨h.val * 106 + p.val, by omega⟩ →
      zed st wt mem x0 x1 x2 x3 x4 x5 x6 x7 (ix2 b j) = ((upd P (x b) (c b) h p : ℝ) : EReal) := fun b h p j hc => by
    rw [zed_eq x7 hr hb, hc.2, ← EReal.coe_add, upd, funext hc.1]
  exact ⟨fun b h => key b h 0 _ (hp.s0 h), fun b h => key b h 1 _ (hp.s1 h), fun b h => key b h 2 _ (hp.s2 h),
    fun b h => key b h 3 _ (hp.jd h), fun b h => key b h 4 _ (hp.j0 h), fun b h => key b h 5 _ (hp.j1 h),
    fun b h => key b h 6 _ (hp.j2 h), fun b h => key b h 7 _ (hp.ga h), fun b h => key b h 104 _ (hp.be h),
    fun b h => key b h 105 _ (hp.gt h), fun b h m => key b h ⟨8 + m.val, by omega⟩ _ (hp.er h m),
    fun b h m => key b h ⟨40 + m.val, by omega⟩ _ (hp.ad h m), fun b h m => key b h ⟨72 + m.val, by omega⟩ _ (hp.ke h m)⟩

/-- The output block of a step. -/
theorem out_eq (b : Fin 32) (j : Fin 256) :
    k0_pay4 (F := Ideal) (k0_pay17 (k0_pay10 wt mem) (k0_pay11 x0 x1 x2) (k0_pay12 st) (k0_pay13 st) (k0_pay14 x3) x4 x5 x6 x7)
      (ix3 0 b j) = outv P (x b) (c b) j := by
  have h := zed_eq x7 hr hb b ⟨256 + j.val, by omega⟩
  unfold zed at h
  pointwise [k0_pay4, k0_pay17, h]
  rw [outv, (hp.wo j).2, funext (hp.wo j).1]

/-- The state after a step. -/
theorem state_eq (b : Fin 32) (j : Fin 256) :
    k0_pay61 (F := Ideal) (k0_pay16 (k0_pay10 wt mem) (k0_pay11 x0 x1 x2) (k0_pay12 st) (k0_pay13 st) (k0_pay14 x3) x4 x5 x6 x7)
      (ix2 b j) = (((step P (x b) (c b)).s j : ℝ) : EReal) := by
  have h := zed_eq x7 hr hb b ⟨j.val, by omega⟩
  unfold zed at h
  pointwise [k0_pay61, k0_pay16, h]
  rw [(hp.ws j).2, funext (hp.ws j).1]
  exact logistic_real _

/-- The softplus of the first shift score, taken from the pre-activations. -/
theorem sp75 (b : Fin 32) (h : Fin 4) :
    k0_pay18 (F := Ideal) (k0_pay10 wt mem) (k0_pay11 x0 x1 x2) (k0_pay12 st) (k0_pay13 st) (k0_pay14 x3) x4 x5 x6 x7
      (ix2 b h) = ((sraw (upd P (x b) (c b)) h 0 : ℝ) : EReal) := by
  have hz := (heads hr hb hp).s0
  unfold zed at hz
  pointwise [k0_pay18, hz]
  exact sp_lift _ _
end

/-- The new weights as the kernel composes them. -/
def kw (v75 : FVec Ideal S32x4 .f32) (z : FVec Ideal S32x1024 .f32) (wt wd : Vec Ideal S32x4x512 .f32)
    (mem : Vec Ideal S32x32x512 .f32) : FVec Ideal S32x4x512 .f32 :=
  let v126 := k0_pay29 (F := Ideal) z
  let v143 := k0_pay39 (F := Ideal) (k0_pay30 z) (k0_pay31 z) (k0_pay32 z) (k0_pay33 z)
  let v145 := k0_pay40 (F := Ideal) (k0_pay30 z) (k0_pay31 z) (k0_pay32 z) (k0_pay33 z)
  let v147 := k0_pay41 (F := Ideal) (k0_pay30 z) (k0_pay31 z) (k0_pay32 z) (k0_pay33 z)
  k0_pay60 (F := Ideal) (k0_pay26 z v75) (k0_pay27 z v75) (k0_pay28 z v75) (k0_pay42 z) (k0_pay43 z) (k0_pay44 z) (kwj z wt wd)
    (k0_pay57 (F := Ideal) mem (kwj z wt wd) (k0_pay48 z) (k0_pay49 z) (k0_pay51 wt wd z v126 v143 v145 v147)
      (k0_pay52 wt wd z v126 v143 v145 v147) (k0_pay53 wt wd v126 v143 v145 v147) (k0_pay54 wt wd z v126 v143 v145 v147) k0_pay55)
    (k0_pay58 (k0_pay45 z)) (k0_pay59 (F := Ideal) mem (kwj z wt wd) (k0_pay48 z) (k0_pay49 z) (k0_pay51 wt wd z v126 v143 v145 v147)
      (k0_pay52 wt wd z v126 v143 v145 v147) (k0_pay53 wt wd v126 v143 v145 v147) (k0_pay54 wt wd z v126 v143 v145 v147) k0_pay55)

/-- The new weights are the cell's. -/
theorem kw_eq {u : Fin 32 → Fin 4 → Fin 106 → ℝ} {z : FVec Ideal S32x1024 .f32} (hz : Heads u z) {v75 : FVec Ideal S32x4 .f32}
    (h75 : ∀ (b : Fin 32) (h : Fin 4), v75 (ix2 b h) = ((sraw (u b) h 0 : ℝ) : EReal)) (hr : Rep c st wt wd mem)
    (hc : ∀ b, (c b).ok) (b : Fin 32) (h : Fin 4) (a : Fin 512) :
    kw v75 z wt wd mem (ix3 b h a) = ((wnew (u b) (c b).w (c b).d (c b).M h a : ℝ) : EReal) := by
  unfold kw
  rw [pay60_eq]
  exact ksharp_eq (pay42 hz)
    (kshift_eq (S := fun b => sft (u b)) (pay26 hz h75) (pay27 hz h75) (pay28 hz h75)
      (kcont_eq (pay44 hz) (pay47 hz hr.w hr.d) (kscore_eq (pay43 hz) (fun b a => pay57 hz hr.w hr.d hr.M b a rfl) (pay58 hz)
        (fun b m a => (pay56 hz hr.w hr.d hr.M b m a))))) (fun b h a => ws_pos (u b) (c b).M (hc b).1 (hc b).2 h a) b h a

/-- One step of the kernel on real rows is one step of the cell. -/
theorem step_eq (hr : Rep c st wt wd mem) (hb : Blk x A x0 x1 x2 x3 x4 x5 x6) (hp : Pack P A x7) (hc : ∀ b, (c b).ok) :
    Rep (fun b => step P (x b) (c b))
      (k0_pay61 (F := Ideal) (k0_pay16 (k0_pay10 wt mem) (k0_pay11 x0 x1 x2) (k0_pay12 st) (k0_pay13 st) (k0_pay14 x3) x4 x5 x6 x7))
      (k0_pay1 (F := Ideal) (kw (k0_pay18 (F := Ideal) (k0_pay10 wt mem) (k0_pay11 x0 x1 x2) (k0_pay12 st) (k0_pay13 st)
        (k0_pay14 x3) x4 x5 x6 x7) (zed st wt mem x0 x1 x2 x3 x4 x5 x6 x7) wt wd mem))
      (k0_pay2 (F := Ideal) (k0_pay46 wt wd (k0_pay29 (zed st wt mem x0 x1 x2 x3 x4 x5 x6 x7))))
      (k0_pay3 (F := Ideal) (kmem (zed st wt mem x0 x1 x2 x3 x4 x5 x6 x7) wt wd mem)) := by
  have hz := heads hr hb hp
  refine ⟨state_eq hr hb hp, fun b h a => ?_, fun b h a => ?_, fun b m a => ?_⟩
  · rw [k0_pay1, shapeCast_self]
    exact kw_eq hz (sp75 hr hb hp) hr hc b h a
  · rw [k0_pay2, shapeCast_self]
    exact pay46 hz hr.w hr.d b h a
  · rw [k0_pay3, shapeCast_self]
    exact pay56 hz hr.w hr.d hr.M b m a

/-- The buffers the kernel starts from hold the initial rows. -/
theorem init_eq : Rep (fun _ => Cell.init) (k0_pay5 (F := Ideal)) (k0_pay7 (F := Ideal)) (k0_pay8 (F := Ideal)) (k0_pay9 (F := Ideal)) := by
  refine ⟨fun b j => ?_, fun b h a => ?_, fun b h a => ?_, fun b m a => ?_⟩
  · pointwise [k0_pay5]
    rfl
  · pointwise [k0_pay7, k0_pay6]
    rw [sel_zero, one_coe, zero_coe, ← apply_ite Real.toEReal]; rfl
  · pointwise [k0_pay8, k0_pay6]
    rw [sel_zero, one_coe, zero_coe, ← apply_ite Real.toEReal]; rfl
  · pointwise [k0_pay9]
    exact memInit_coe

end step

end Cert.KMath
-- ==== Proof.KPoint.lean ====
module

public import proofs.«01_k».proof.Proof.Gen.KernelIdeal.Frame
public import proofs.«01_k».proof.Proof.KStep
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Cert.KernelIdeal Cert.KernelIdeal.Gen

/-! What one grid point leaves in the output's block and in the four carried buffers, as the kernel's own vectors. -/

namespace Cert.KPoint
open Cert.KMath

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl

section
variable (st : Vec Ideal S32x256 .f32) (wt wd : Vec Ideal S32x4x512 .f32) (mem : Vec Ideal S32x32x512 .f32)
  (x0 : Vec Ideal S1x32x258 .f32) (x1 x2 : Vec Ideal S258x1024 .bf16) (x3 x4 : Vec Ideal S256x1024 .bf16)
  (x5 x6 : Vec Ideal S128x1024 .bf16) (x7 : Vec Ideal S1x1024 .f32)

/-- The output block of one point. -/
def oOut : Vec Ideal S1x32x256 .f32 :=
  k0_pay4 (F := Ideal) (k0_pay17 (k0_pay10 wt mem) (k0_pay11 x0 x1 x2) (k0_pay12 st) (k0_pay13 st) (k0_pay14 x3) x4 x5 x6 x7)
/-- The state after one point. -/
def oSt : Vec Ideal S32x256 .f32 :=
  k0_pay61 (F := Ideal) (k0_pay16 (k0_pay10 wt mem) (k0_pay11 x0 x1 x2) (k0_pay12 st) (k0_pay13 st) (k0_pay14 x3) x4 x5 x6 x7)
/-- The weights after one point. -/
def oWt : Vec Ideal S32x4x512 .f32 :=
  k0_pay1 (F := Ideal) (kw (k0_pay18 (F := Ideal) (k0_pay10 wt mem) (k0_pay11 x0 x1 x2) (k0_pay12 st) (k0_pay13 st)
    (k0_pay14 x3) x4 x5 x6 x7) (zed st wt mem x0 x1 x2 x3 x4 x5 x6 x7) wt wd mem)
/-- The dynamic weights after one point. -/
def oWd : Vec Ideal S32x4x512 .f32 :=
  k0_pay2 (F := Ideal) (k0_pay46 wt wd (k0_pay29 (zed st wt mem x0 x1 x2 x3 x4 x5 x6 x7)))
/-- The memory after one point. -/
def oMem : Vec Ideal S32x32x512 .f32 :=
  k0_pay3 (F := Ideal) (kmem (zed st wt mem x0 x1 x2 x3 x4 x5 x6 x7) wt wd mem)
end

section
variable (c : Dev nD) (i : grid0.Coords)
  (a1 : Memref sig .tc .vmem S1x32x258 .f32) (h1 : a1.IsWhole)
  (a2 : Memref sig .tc .vmem S258x1024 .bf16) (h2 : a2.IsWhole)
  (a3 : Memref sig .tc .vmem S258x1024 .bf16) (h3 : a3.IsWhole)
  (a4 : Memref sig .tc .vmem S256x1024 .bf16) (h4 : a4.IsWhole)
  (a5 : Memref sig .tc .vmem S256x1024 .bf16) (h5 : a5.IsWhole)
  (a6 : Memref sig .tc .vmem S128x1024 .bf16) (h6 : a6.IsWhole)
  (a7 : Memref sig .tc .vmem S128x1024 .bf16) (h7 : a7.IsWhole)
  (a8 : Memref sig .tc .vmem S1x1024 .f32) (h8 : a8.IsWhole)
  (a9 : Memref sig .tc .vmem S1x32x256 .f32) (h9 : a9.IsWhole)
  (a10 : Memref sig .tc .vmem S32x256 .f32) (h10 : a10.IsWhole)
  (a11 : Memref sig .tc .vmem S32x4x512 .f32) (h11 : a11.IsWhole)
  (a12 : Memref sig .tc .vmem S32x4x512 .f32) (h12 : a12.IsWhole)
  (a13 : Memref sig .tc .vmem S32x32x512 .f32) (h13 : a13.IsWhole)
  (x0 : Vec Ideal S1x32x258 .f32)
  (x1 : Vec Ideal S258x1024 .bf16)
  (x2 : Vec Ideal S258x1024 .bf16)
  (x3 : Vec Ideal S256x1024 .bf16)
  (x4 : Vec Ideal S256x1024 .bf16)
  (x5 : Vec Ideal S128x1024 .bf16)
  (x6 : Vec Ideal S128x1024 .bf16)
  (x7 : Vec Ideal S1x1024 .f32)

section
variable (hc : ¬cond0_0 i) (xs0 : Vec Ideal S32x256 .f32) (xs1 xs2 : Vec Ideal S32x4x512 .f32) (xs3 : Vec Ideal S32x32x512 .f32)

/-- A later point's output block. -/
theorem B_oOut : out0_B_8 (F := Ideal) c i a1 h1 a2 h2 a3 h3 a4 h4 a5 h5 a6 h6 a7 h7 a8 h8 a9 h9 a10 h10 a11 h11 a12 h12 a13 h13 hc x0 x1 x2 x3 x4 x5 x6 x7 xs0 xs1 xs2 xs3
    = oOut xs0 xs1 xs3 x0 x1 x2 x3 x4 x5 x6 x7 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc x0 x1 x2 x3 x4 x5 x6 x7 xs0 xs1 xs2 xs3)]
  unfold kernelRun0_B
  dsimp only
  rw [View.canon_unit_zero hz3]
  sl_unfold_words
  simp only [View.readAt_eq_ld, h1.read_unread, h2.read_unread, h3.read_unread, h4.read_unread, h5.read_unread, h6.read_unread, h7.read_unread, h8.read_unread, h10.read_unread, h11.read_unread, h12.read_unread, h13.read_unread,
    View.ld_unit_zero (S := S1x32x258) hz3, View.ld_unit_zero (S := S258x1024) hz2, View.ld_unit_zero (S := S256x1024) hz2, View.ld_unit_zero (S := S128x1024) hz2, View.ld_unit_zero (S := S1x1024) hz2, View.ld_unit_zero (S := S32x256) hz2, View.ld_unit_zero (S := S32x4x512) hz3, View.ld_unit_zero (S := S32x32x512) hz3, shapeCast_self]
  rfl

/-- A later point's state. -/
theorem B_oSt : sout0_B_0 (F := Ideal) c i a1 h1 a2 h2 a3 h3 a4 h4 a5 h5 a6 h6 a7 h7 a8 h8 a9 h9 a10 h10 a11 h11 a12 h12 a13 h13 hc x0 x1 x2 x3 x4 x5 x6 x7 xs0 xs1 xs2 xs3
    = oSt xs0 xs1 xs3 x0 x1 x2 x3 x4 x5 x6 x7 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 hc x0 x1 x2 x3 x4 x5 x6 x7 xs0 xs1 xs2 xs3)]
  unfold kernelRun0_B
  dsimp only
  rw [View.canon_unit_zero hz2]
  sl_unfold_words
  simp only [View.readAt_eq_ld, h1.read_unread, h2.read_unread, h3.read_unread, h4.read_unread, h5.read_unread, h6.read_unread, h7.read_unread, h8.read_unread, h10.read_unread, h11.read_unread, h12.read_unread, h13.read_unread,
    View.ld_unit_zero (S := S1x32x258) hz3, View.ld_unit_zero (S := S258x1024) hz2, View.ld_unit_zero (S := S256x1024) hz2, View.ld_unit_zero (S := S128x1024) hz2, View.ld_unit_zero (S := S1x1024) hz2, View.ld_unit_zero (S := S32x256) hz2, View.ld_unit_zero (S := S32x4x512) hz3, View.ld_unit_zero (S := S32x32x512) hz3, shapeCast_self]
  rfl

/-- A later point's weights. -/
theorem B_oWt : sout0_B_1 (F := Ideal) c i a1 h1 a2 h2 a3 h3 a4 h4 a5 h5 a6 h6 a7 h7 a8 h8 a9 h9 a10 h10 a11 h11 a12 h12 a13 h13 hc x0 x1 x2 x3 x4 x5 x6 x7 xs0 xs1 xs2 xs3
    = oWt xs0 xs1 xs2 xs3 x0 x1 x2 x3 x4 x5 x6 x7 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 hc x0 x1 x2 x3 x4 x5 x6 x7 xs0 xs1 xs2 xs3)]
  unfold kernelRun0_B
  dsimp only
  rw [View.canon_unit_zero hz3]
  sl_unfold_words
  simp only [View.readAt_eq_ld, h1.read_unread, h2.read_unread, h3.read_unread, h4.read_unread, h5.read_unread, h6.read_unread, h7.read_unread, h8.read_unread, h10.read_unread, h11.read_unread, h12.read_unread, h13.read_unread,
    View.ld_unit_zero (S := S1x32x258) hz3, View.ld_unit_zero (S := S258x1024) hz2, View.ld_unit_zero (S := S256x1024) hz2, View.ld_unit_zero (S := S128x1024) hz2, View.ld_unit_zero (S := S1x1024) hz2, View.ld_unit_zero (S := S32x256) hz2, View.ld_unit_zero (S := S32x4x512) hz3, View.ld_unit_zero (S := S32x32x512) hz3, shapeCast_self]
  rfl

/-- A later point's dynamic weights. -/
theorem B_oWd : sout0_B_2 (F := Ideal) c i a1 h1 a2 h2 a3 h3 a4 h4 a5 h5 a6 h6 a7 h7 a8 h8 a9 h9 a10 h10 a11 h11 a12 h12 a13 h13 hc x0 x1 x2 x3 x4 x5 x6 x7 xs0 xs1 xs2 xs3
    = oWd xs0 xs1 xs2 xs3 x0 x1 x2 x3 x4 x5 x6 x7 := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 hc x0 x1 x2 x3 x4 x5 x6 x7 xs0 xs1 xs2 xs3)]
  unfold kernelRun0_B
  dsimp only
  rw [View.canon_unit_zero hz3]
  sl_unfold_words
  simp only [View.readAt_eq_ld, h1.read_unread, h2.read_unread, h3.read_unread, h4.read_unread, h5.read_unread, h6.read_unread, h7.read_unread, h8.read_unread, h10.read_unread, h11.read_unread, h12.read_unread, h13.read_unread,
    View.ld_unit_zero (S := S1x32x258) hz3, View.ld_unit_zero (S := S258x1024) hz2, View.ld_unit_zero (S := S256x1024) hz2, View.ld_unit_zero (S := S128x1024) hz2, View.ld_unit_zero (S := S1x1024) hz2, View.ld_unit_zero (S := S32x256) hz2, View.ld_unit_zero (S := S32x4x512) hz3, View.ld_unit_zero (S := S32x32x512) hz3, shapeCast_self]
  rfl

/-- A later point's memory. -/
theorem B_oMem : sout0_B_3 (F := Ideal) c i a1 h1 a2 h2 a3 h3 a4 h4 a5 h5 a6 h6 a7 h7 a8 h8 a9 h9 a10 h10 a11 h11 a12 h12 a13 h13 hc x0 x1 x2 x3 x4 x5 x6 x7 xs0 xs1 xs2 xs3
    = oMem xs0 xs1 xs2 xs3 x0 x1 x2 x3 x4 x5 x6 x7 := by
  unfold sout0_B_3
  rw [View.read_writes_eq_canon _ _ _ (scover0_B_3 c i a1 h1 a2 h2 a3 h3 a4 h4 a5 h5 a6 h6 a7 h7 a8 h8 a9 h9 a10 h10 a11 h11 a12 h12 a13 h13 hc x0 x1 x2 x3 x4 x5 x6 x7 xs0 xs1 xs2 xs3)]
  unfold kernelRun0_B
  dsimp only
  rw [View.canon_unit_zero hz3]
  sl_unfold_words
  simp only [View.readAt_eq_ld, h1.read_unread, h2.read_unread, h3.read_unread, h4.read_unread, h5.read_unread, h6.read_unread, h7.read_unread, h8.read_unread, h10.read_unread, h11.read_unread, h12.read_unread, h13.read_unread,
    View.ld_unit_zero (S := S1x32x258) hz3, View.ld_unit_zero (S := S258x1024) hz2, View.ld_unit_zero (S := S256x1024) hz2, View.ld_unit_zero (S := S128x1024) hz2, View.ld_unit_zero (S := S1x1024) hz2, View.ld_unit_zero (S := S32x256) hz2, View.ld_unit_zero (S := S32x4x512) hz3, View.ld_unit_zero (S := S32x32x512) hz3, shapeCast_self]
  rfl
end

section
variable (hc : cond0_0 i)

/-- The first point's output block. -/
theorem A_oOut : out0_A_8 (F := Ideal) c i a1 h1 a2 h2 a3 h3 a4 h4 a5 h5 a6 h6 a7 h7 a8 h8 a9 h9 a10 h10 a11 h11 a12 h12 a13 h13 hc x0 x1 x2 x3 x4 x5 x6 x7
    = oOut (k0_pay5 (F := Ideal)) (k0_pay7 (F := Ideal)) (k0_pay9 (F := Ideal)) x0 x1 x2 x3 x4 x5 x6 x7 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_unit_zero hz3]
  simp only [View.readAt_eq_ld, h1.read_unread, h2.read_unread, h3.read_unread, h4.read_unread, h5.read_unread, h6.read_unread, h7.read_unread, h8.read_unread, h10.read_unread, h11.read_unread, h12.read_unread, h13.read_unread,
    View.ld_unit_zero (S := S1x32x258) hz3, View.ld_unit_zero (S := S258x1024) hz2, View.ld_unit_zero (S := S256x1024) hz2, View.ld_unit_zero (S := S128x1024) hz2, View.ld_unit_zero (S := S1x1024) hz2, View.ld_unit_zero (S := S32x256) hz2, View.ld_unit_zero (S := S32x4x512) hz3, View.ld_unit_zero (S := S32x32x512) hz3, View.readCov_unit_zero (S := S32x256) _ hz2, View.readCov_unit_zero (S := S32x4x512) _ hz3, View.readCov_unit_zero (S := S32x32x512) _ hz3, shapeCast_self]
  rfl

/-- The first point's state. -/
theorem A_oSt : sout0_A_0 (F := Ideal) c i a1 h1 a2 h2 a3 h3 a4 h4 a5 h5 a6 h6 a7 h7 a8 h8 a9 h9 a10 h10 a11 h11 a12 h12 a13 h13 hc x0 x1 x2 x3 x4 x5 x6 x7
    = oSt (k0_pay5 (F := Ideal)) (k0_pay7 (F := Ideal)) (k0_pay9 (F := Ideal)) x0 x1 x2 x3 x4 x5 x6 x7 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_cons_unit_zero (S := S32x256) hz2]
  simp only [View.readAt_eq_ld, h1.read_unread, h2.read_unread, h3.read_unread, h4.read_unread, h5.read_unread, h6.read_unread, h7.read_unread, h8.read_unread, h10.read_unread, h11.read_unread, h12.read_unread, h13.read_unread,
    View.ld_unit_zero (S := S1x32x258) hz3, View.ld_unit_zero (S := S258x1024) hz2, View.ld_unit_zero (S := S256x1024) hz2, View.ld_unit_zero (S := S128x1024) hz2, View.ld_unit_zero (S := S1x1024) hz2, View.ld_unit_zero (S := S32x256) hz2, View.ld_unit_zero (S := S32x4x512) hz3, View.ld_unit_zero (S := S32x32x512) hz3, View.readCov_unit_zero (S := S32x256) _ hz2, View.readCov_unit_zero (S := S32x4x512) _ hz3, View.readCov_unit_zero (S := S32x32x512) _ hz3, shapeCast_self]
  rfl

/-- The first point's weights. -/
theorem A_oWt : sout0_A_1 (F := Ideal) c i a1 h1 a2 h2 a3 h3 a4 h4 a5 h5 a6 h6 a7 h7 a8 h8 a9 h9 a10 h10 a11 h11 a12 h12 a13 h13 hc x0 x1 x2 x3 x4 x5 x6 x7
    = oWt (k0_pay5 (F := Ideal)) (k0_pay7 (F := Ideal)) (k0_pay8 (F := Ideal)) (k0_pay9 (F := Ideal)) x0 x1 x2 x3 x4 x5 x6 x7 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_cons_unit_zero (S := S32x4x512) hz3]
  simp only [View.readAt_eq_ld, h1.read_unread, h2.read_unread, h3.read_unread, h4.read_unread, h5.read_unread, h6.read_unread, h7.read_unread, h8.read_unread, h10.read_unread, h11.read_unread, h12.read_unread, h13.read_unread,
    View.ld_unit_zero (S := S1x32x258) hz3, View.ld_unit_zero (S := S258x1024) hz2, View.ld_unit_zero (S := S256x1024) hz2, View.ld_unit_zero (S := S128x1024) hz2, View.ld_unit_zero (S := S1x1024) hz2, View.ld_unit_zero (S := S32x256) hz2, View.ld_unit_zero (S := S32x4x512) hz3, View.ld_unit_zero (S := S32x32x512) hz3, View.readCov_unit_zero (S := S32x256) _ hz2, View.readCov_unit_zero (S := S32x4x512) _ hz3, View.readCov_unit_zero (S := S32x32x512) _ hz3, shapeCast_self]
  rfl

/-- The first point's dynamic weights. -/
theorem A_oWd : sout0_A_2 (F := Ideal) c i a1 h1 a2 h2 a3 h3 a4 h4 a5 h5 a6 h6 a7 h7 a8 h8 a9 h9 a10 h10 a11 h11 a12 h12 a13 h13 hc x0 x1 x2 x3 x4 x5 x6 x7
    = oWd (k0_pay5 (F := Ideal)) (k0_pay7 (F := Ideal)) (k0_pay8 (F := Ideal)) (k0_pay9 (F := Ideal)) x0 x1 x2 x3 x4 x5 x6 x7 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_cons_unit_zero (S := S32x4x512) hz3]
  simp only [View.readAt_eq_ld, h1.read_unread, h2.read_unread, h3.read_unread, h4.read_unread, h5.read_unread, h6.read_unread, h7.read_unread, h8.read_unread, h10.read_unread, h11.read_unread, h12.read_unread, h13.read_unread,
    View.ld_unit_zero (S := S1x32x258) hz3, View.ld_unit_zero (S := S258x1024) hz2, View.ld_unit_zero (S := S256x1024) hz2, View.ld_unit_zero (S := S128x1024) hz2, View.ld_unit_zero (S := S1x1024) hz2, View.ld_unit_zero (S := S32x256) hz2, View.ld_unit_zero (S := S32x4x512) hz3, View.ld_unit_zero (S := S32x32x512) hz3, View.readCov_unit_zero (S := S32x256) _ hz2, View.readCov_unit_zero (S := S32x4x512) _ hz3, View.readCov_unit_zero (S := S32x32x512) _ hz3, shapeCast_self]
  rfl

/-- The first point's memory. -/
theorem A_oMem : sout0_A_3 (F := Ideal) c i a1 h1 a2 h2 a3 h3 a4 h4 a5 h5 a6 h6 a7 h7 a8 h8 a9 h9 a10 h10 a11 h11 a12 h12 a13 h13 hc x0 x1 x2 x3 x4 x5 x6 x7
    = oMem (k0_pay5 (F := Ideal)) (k0_pay7 (F := Ideal)) (k0_pay8 (F := Ideal)) (k0_pay9 (F := Ideal)) x0 x1 x2 x3 x4 x5 x6 x7 := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 hc x0 x1 x2 x3 x4 x5 x6 x7)]
  unfold kernelRun0_A
  dsimp only
  sl_unfold_words
  rw [View.canon_cons_unit_zero (S := S32x32x512) hz3]
  simp only [View.readAt_eq_ld, h1.read_unread, h2.read_unread, h3.read_unread, h4.read_unread, h5.read_unread, h6.read_unread, h7.read_unread, h8.read_unread, h10.read_unread, h11.read_unread, h12.read_unread, h13.read_unread,
    View.ld_unit_zero (S := S1x32x258) hz3, View.ld_unit_zero (S := S258x1024) hz2, View.ld_unit_zero (S := S256x1024) hz2, View.ld_unit_zero (S := S128x1024) hz2, View.ld_unit_zero (S := S1x1024) hz2, View.ld_unit_zero (S := S32x256) hz2, View.ld_unit_zero (S := S32x4x512) hz3, View.ld_unit_zero (S := S32x32x512) hz3, View.readCov_unit_zero (S := S32x256) _ hz2, View.readCov_unit_zero (S := S32x4x512) _ hz3, View.readCov_unit_zero (S := S32x32x512) _ hz3, shapeCast_self]
  rfl
end
end
end Cert.KPoint
-- ==== Proof.KRun.lean ====
module

public import proofs.«01_k».proof.Proof.KPoint

@[expose] public section

set_option maxRecDepth 16384

noncomputable section

open Idealize.ShloMosaic Idealize.ShloMosaic.TcCoe Idealize.SL.Sem
open Cert.KernelIdeal Cert.KernelIdeal.Gen

/-! The kernel's run, point by point: after point `n` the carried buffers hold the first `n + 1` steps of every row. -/

namespace Cert.KRun
open Cert.Cell Cert.KMath Cert.KPoint

variable (m : (ℓ : Loc nD τ sig) → Buf (Elt Ideal) ℓ) (c : Dev nD)
  (P : Par) (X : Fin 512 → Fin 32 → Fin 258 → ℝ) (A : Fin 642 → Fin 1024 → ℝ)

/-- A grid point is a time. -/
def time (t : Fin cfg0.N) : Fin 512 := ⟨t.val, t.isLt.trans_le (le_of_eq N_0)⟩

/-- What the blocks read at every point are: the inputs of that time, the packed weights. -/
structure Blocks : Prop where
  b : ∀ t : Fin cfg0.N, Blk (X (time t)) A (iblk m c 0 t) (iblk m c 1 t) (iblk m c 2 t) (iblk m c 3 t) (iblk m c 4 t)
    (iblk m c 5 t) (iblk m c 6 t)
  p : ∀ t : Fin cfg0.N, Pack P A (iblk m c 7 t)

/-- What the buffers hold after a point. -/
structure After (n : ℕ) (hn : n < cfg0.N) : Prop where
  rep : Rep (rows P X (n + 1)) (outsAt0 m c n hn).2.1 (outsAt0 m c n hn).2.2.1 (outsAt0 m c n hn).2.2.2.1
    (outsAt0 m c n hn).2.2.2.2
  out : ∀ (b : Fin 32) (j : Fin 256), (outsAt0 m c n hn).1 (ix3 0 b j)
    = outv P (X (time ⟨n, hn⟩) b) (rows P X n b) j

variable {m c P X A}

/-- After every point the carried buffers hold the rows' steps and the output block holds that time's outputs. -/
theorem after (hB : Blocks m c P X A) : ∀ (n : ℕ) (hn : n < cfg0.N), After m c P X n hn
  | 0, hn => by
    have e := outsAt0_A m c ⟨0, hn⟩ rfl
    rw [A_oOut, A_oSt, A_oWt, A_oWd, A_oMem] at e
    have hr : Rep (rows P X 0) _ _ _ _ := init_eq
    have hs := step_eq hr (hB.b ⟨0, hn⟩) (hB.p ⟨0, hn⟩) (rows_ok P X 0)
    have ho := out_eq hr (hB.b ⟨0, hn⟩) (hB.p ⟨0, hn⟩)
    constructor
    · rw [show rows P X (0 + 1) = _ from funext fun b => rows_succ P X (time ⟨0, hn⟩) b]
      dsimp only at e
      rw [e]
      exact hs
    · dsimp only at e
      rw [e]
      exact ho
  | n + 1, hn => by
    have ih := after hB n (Nat.lt_of_succ_lt hn)
    have hN : cfg0.N = 512 := N_0
    have h0 : ¬(⟨n + 1, hn⟩ : Fin cfg0.N).val % 512 = 0 := by dsimp only; omega
    have e := outsAt0_B m c ⟨n + 1, hn⟩ h0
    rw [B_oOut, B_oSt, B_oWt, B_oWd, B_oMem] at e
    have hs := step_eq ih.rep (hB.b ⟨n + 1, hn⟩) (hB.p ⟨n + 1, hn⟩) (rows_ok P X (n + 1))
    have ho := out_eq ih.rep (hB.b ⟨n + 1, hn⟩) (hB.p ⟨n + 1, hn⟩)
    constructor
    · rw [show rows P X (n + 1 + 1) = _ from funext fun b => rows_succ P X (time ⟨n + 1, hn⟩) b]
      dsimp only at e
      rw [e]
      exact hs
    · dsimp only at e
      rw [e]
      exact ho

end Cert.KRun
-- ==== Proof.KFinal.lean ====
module

public import proofs.«01_k».proof.Proof.KRun
public import Idealize.ShloMosaic.Lib.StableHlo.Run
public import Idealize.ShloMosaic.Lib.StableHlo.RunRead
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

/-! What the kernel's run leaves in its result. -/

namespace Cert.KRun
open Cert.Cell Cert.KMath Cert.KPoint

variable (m : (ℓ : Loc nD τ sig) → Buf (Elt Ideal) ℓ) (c : Dev nD)
  {P : Par} {X : Fin 512 → Fin 32 → Fin 258 → ℝ} {A : Fin 642 → Fin 1024 → ℝ}

/-- The grid point of a time. -/
def point (n : Fin 512) : Fin cfg0.N := ⟨n.val, n.isLt.trans_le (le_of_eq N_0.symm)⟩

/-- The output block of a time. -/
def outAt (n : Fin 512) : Vec Ideal S1x32x256 .f32 := (outsAt0 m c (point n).val (point n).isLt).1

/-- The time-major outputs: block `n` is what point `n` left. -/
def outs : Buf (Elt Ideal) ((c : Thread nD τ).loc main_v58) := fun i : S512x32x256.Idx =>
  outAt m c (i 0) (ix3 0 (i 1) (i 2))

/-- The output block of a grid point is that of its time step. -/
theorem idx8 (t : Fin cfg0.N) : win0_8.index t 0 = t.val ∧ win0_8.index t 1 = 0 ∧ win0_8.index t 2 = 0 := by
  have ht : t.val < 512 := t.isLt.trans_le (le_of_eq N_0)
  have e0 : (grid0.coords t 0).val = t.val / 1 % 512 := Pipeline.Grid.coords_val t 0 (by decide) rfl
  refine ⟨?_, rfl, rfl⟩
  show (BitVec.ofNat 32 (grid0.coords t 0).val).toNat = t.val
  rw [e0, BitVec.toNat_ofNat]
  omega

/-- Every point writes its block of the outputs. -/
theorem flushed_outs (t : Fin cfg0.N) (hf : (cfg0.win 8).flush t = true) :
    (dats m 0 c).flushed 8 t = ((cfg0.win 8).blk t).view.read (Elt Ideal) (outs m c) := by
  show (cfg0.win 8).cut (grid0.coords t) ((dats m 0 c).after 8 t) = _
  rw [after0_8]
  funext j
  rw [View.read_apply]
  obtain ⟨e0, e1, e2⟩ := idx8 t
  show (outsAt0 m c t.val t.isLt).1 _ = outs m c _
  have key : ∀ (i : S512x32x256.Idx) (y : S1x32x256.Idx), i 0 = time t → i 1 = y 1 → i 2 = y 2 →
      (outsAt0 m c t.val t.isLt).1 y = outs m c i := fun i y h0 h1 h2 => by
    have e : ix3 (n0 := 1) (n1 := 32) (n2 := 256) 0 (i 1) (i 2) = y := funext fun a => by
      match a with
      | ⟨0, _⟩ => exact Subsingleton.elim (α := Fin 1) _ _
      | ⟨1, _⟩ => exact h1
      | ⟨2, _⟩ => exact h2
    exact (congrArg₂ (outAt m c) (show time t = i 0 from h0.symm) e.symm)
  refine key _ _ (Fin.ext ?_) (Fin.ext ?_) (Fin.ext ?_)
  · show win0_8.index t 0 * 1 + 1 * (j 0).val = t.val
    have : (j 0).val < 1 := (j 0).isLt
    rw [e0]; omega
  · show win0_8.index t 1 * 32 + 1 * (j 1).val = (j 1).val
    rw [e1]; omega
  · show win0_8.index t 2 * 256 + 1 * (j 2).val = (j 2).val
    rw [e2]; omega

/-- The blocks cover the outputs. -/
theorem arr_outs : (dats m 0 c).arrAt 8 cfg0.N = outs m c :=
  (dats m 0 c).arrAt_eq_of_cover 8 (outs m c) (flushed_outs m c) fun i => by
    refine ⟨point (i 0), flush0_8 _, ?_⟩
    obtain ⟨e0, e1, e2⟩ := idx8 (point (i 0))
    show i ∈ ((View.whole main_v58).slice (win0_8.rect (point (i 0)))).set
    rw [View.set_slice_whole, Rect.mem_set_unit]
    intro a
    have h0 : (i 0 : Nat) < 512 := (i 0).isLt
    have h1 : (i 1 : Nat) < 32 := (i 1).isLt
    have h2 : (i 2 : Nat) < 256 := (i 2).isLt
    match a with
    | ⟨0, _⟩ =>
      show win0_8.index (point (i 0)) 0 * 1 ≤ (i 0 : Nat) ∧ (i 0 : Nat) < win0_8.index (point (i 0)) 0 * 1 + 1
      rw [e0]; show (i 0 : Nat) * 1 ≤ (i 0 : Nat) ∧ (i 0 : Nat) < (i 0 : Nat) * 1 + 1; omega
    | ⟨1, _⟩ =>
      show win0_8.index (point (i 0)) 1 * 32 ≤ (i 1 : Nat) ∧ (i 1 : Nat) < win0_8.index (point (i 0)) 1 * 32 + 32
      rw [e1]; omega
    | ⟨2, _⟩ =>
      show win0_8.index (point (i 0)) 2 * 256 ≤ (i 2 : Nat) ∧ (i 2 : Nat) < win0_8.index (point (i 0)) 2 * 256 + 256
      rw [e2]; omega

/-- The host's last operation swaps the time and the row. -/
theorem tail_eq : (Pipeline.afterTail₀ cfgs (dats m) 0 (V0 m) [hostOps1] c main_v59 : FVec Ideal S32x512x256 .f32)
    = transpose S32x512x256 [1, 0, 2] (outs m c : FVec Ideal S512x32x256 .f32) transposes_S512x32x256_S32x512x256_1_0_2 := by
  unfold Pipeline.afterTail₀
  have e := Pipeline.withArrays_arr spec0 (by decide) c (V0 m c) (fun w => (dats m 0 c).arrAt w cfg0.N) 8
  rw [arr_outs m c] at e
  have e' : (Pipeline.withArrays (cfgs 0).spec c (V0 m c) fun w => (dats m 0 c).arrAt w (cfgs 0).N) (Proc.tc.devRef main_v58)
    = outs m c := e
  generalize (Pipeline.withArrays (cfgs 0).spec c (V0 m c) fun w => (dats m 0 c).arrAt w (cfgs 0).N) = W at e' ⊢
  simp only [List.flatten_cons, List.flatten_nil, List.append_nil]
  after_reads_simp
  rw [e']

/-- The kernel's result. -/
def res : FVec Ideal S32x512x256 .f32 :=
  transpose S32x512x256 [1, 0, 2] (outs m c : FVec Ideal S512x32x256 .f32) transposes_S512x32x256_S32x512x256_1_0_2

/-- Every launch of the kernel ends with its result and its arguments unchanged. -/
theorem run (ρ : Dev nD → PrngReg) : θ_run defs (onTc (τ := τ) (main (F := Ideal))) ⟨m, fun _ => 0, ρ⟩ (fun r =>
    (∀ c : Dev nD, r.2.mem ((c.tc : Thread nD τ).loc main_v59) = res m c)
    ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_and ((θ_run defs _ _).mono (fun _ h c =>
    (((h c).2 main_v59 (Pipeline.mem_restRefs_of main_v59 (by decide) (by decide))).trans (tail_eq m c))) (run_main m ρ))
    (unchanged m ρ)

variable {m c}

/-- The kernel's result, an entry: the output of that row at that time. -/
theorem res_eq (hB : Blocks m c P X A) (b : Fin 32) (t : Fin 512) (j : Fin 256) :
    res m c (ix3 b t j) = outv P (X t b) (rows P X t.val b) j := by
  have h := (after hB (point t).val (point t).isLt).out b j
  have e : ∀ y : FVec Ideal S512x32x256 .f32,
      transpose S32x512x256 [1, 0, 2] y transposes_S512x32x256_S32x512x256_1_0_2 (ix3 b t j) = y (ix3 t b j) := fun y => by
    pointwise []
  exact (e _).trans h
end Cert.KRun
-- ==== Proof.KEntry.lean ====
module

public import proofs.«01_k».proof.Proof.KFinal

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

/-! The host's packing: the columns of the three weights and biases, side by side, the heads' columns regrouped. -/

namespace Cert.KRun
open Cert.Cell Cert.KMath Cert.KPoint

section pieces
variable (a2 : Vec Ideal S642x256 .f32) (a3 : Vec Ideal S256 .f32) (a4 : Vec Ideal S642x256 .f32) (a5 : Vec Ideal S256 .f32)
  (a6 : Vec Ideal S642x424 .f32) (a7 : Vec Ideal S424 .f32)

/-- The update weight, head by head. -/
def wu : FVec Ideal S642x4x106 .f32 := shapeCast S642x4x106 a6 shapeCasts_S642x424_S642x4x106
/-- The update bias, head by head. -/
def bu : FVec Ideal S4x106 .f32 := shapeCast S4x106 a7 shapeCasts_S424_S4x106
/-- The packed weight columns of the shift scores. -/
def wp0 : FVec Ideal S642x12 .f32 := shapeCast S642x12 (transpose S642x3x4 [0, 2, 1] (extractStridedSlice S642x4x3 ![0, 0, 0] (wu a6) slices_S642x4x106_S642x4x3_0_0_0) transposes_S642x4x3_S642x3x4_0_2_1) shapeCasts_S642x3x4_S642x12
/-- The packed bias entries of the shift scores. -/
def bp0 : FVec Ideal S12 .f32 := shapeCast S12 (transpose S3x4 [1, 0] (extractStridedSlice S4x3 ![0, 0] (bu a7) slices_S4x106_S4x3_0_0) transposes_S4x3_S3x4_1_0) shapeCasts_S3x4_S12
/-- The packed weight columns of the gate of the dynamic weights. -/
def wp3 : FVec Ideal S642x4 .f32 := shapeCast S642x4 (extractStridedSlice S642x4x1 ![0, 0, 3] (wu a6) slices_S642x4x106_S642x4x1_0_0_3) shapeCasts_S642x4x1_S642x4
/-- The packed bias entries of the gate of the dynamic weights. -/
def bp3 : FVec Ideal S4 .f32 := shapeCast S4 (extractStridedSlice S4x1 ![0, 3] (bu a7) slices_S4x106_S4x1_0_3) shapeCasts_S4x1_S4
/-- The packed weight columns of the jump scores. -/
def wp4 : FVec Ideal S642x12 .f32 := shapeCast S642x12 (transpose S642x3x4 [0, 2, 1] (extractStridedSlice S642x4x3 ![0, 0, 4] (wu a6) slices_S642x4x106_S642x4x3_0_0_4) transposes_S642x4x3_S642x3x4_0_2_1) shapeCasts_S642x3x4_S642x12
/-- The packed bias entries of the jump scores. -/
def bp4 : FVec Ideal S12 .f32 := shapeCast S12 (transpose S3x4 [1, 0] (extractStridedSlice S4x3 ![0, 4] (bu a7) slices_S4x106_S4x3_0_4) transposes_S4x3_S3x4_1_0) shapeCasts_S3x4_S12
/-- The packed weight columns of the sharpening exponent. -/
def wp7 : FVec Ideal S642x4 .f32 := shapeCast S642x4 (extractStridedSlice S642x4x1 ![0, 0, 7] (wu a6) slices_S642x4x106_S642x4x1_0_0_7) shapeCasts_S642x4x1_S642x4
/-- The packed bias entries of the sharpening exponent. -/
def bp7 : FVec Ideal S4 .f32 := shapeCast S4 (extractStridedSlice S4x1 ![0, 7] (bu a7) slices_S4x106_S4x1_0_7) shapeCasts_S4x1_S4
/-- The packed weight columns of the key strength. -/
def wp104 : FVec Ideal S642x4 .f32 := shapeCast S642x4 (extractStridedSlice S642x4x1 ![0, 0, 104] (wu a6) slices_S642x4x106_S642x4x1_0_0_104) shapeCasts_S642x4x1_S642x4
/-- The packed bias entries of the key strength. -/
def bp104 : FVec Ideal S4 .f32 := shapeCast S4 (extractStridedSlice S4x1 ![0, 104] (bu a7) slices_S4x106_S4x1_0_104) shapeCasts_S4x1_S4
/-- The packed weight columns of the content gate. -/
def wp105 : FVec Ideal S642x4 .f32 := shapeCast S642x4 (extractStridedSlice S642x4x1 ![0, 0, 105] (wu a6) slices_S642x4x106_S642x4x1_0_0_105) shapeCasts_S642x4x1_S642x4
/-- The packed bias entries of the content gate. -/
def bp105 : FVec Ideal S4 .f32 := shapeCast S4 (extractStridedSlice S4x1 ![0, 105] (bu a7) slices_S4x106_S4x1_0_105) shapeCasts_S4x1_S4
/-- The packed weight columns of the padding. -/
def wp_ : FVec Ideal S642x88 .f32 := broadcastInDim S642x88 ![] bcast_S_S642x88 (constant S_ .f32 0x00000000#32)
/-- The packed bias entries of the padding. -/
def bp_ : FVec Ideal S88 .f32 := broadcastInDim S88 ![] bcast_S_S88 (constant S_ .f32 0x00000000#32)
/-- The packed weight columns of the erase vector. -/
def wp8 : FVec Ideal S642x128 .f32 := shapeCast S642x128 (extractStridedSlice S642x4x32 ![0, 0, 8] (wu a6) slices_S642x4x106_S642x4x32_0_0_8) shapeCasts_S642x4x32_S642x128
/-- The packed bias entries of the erase vector. -/
def bp8 : FVec Ideal S128 .f32 := shapeCast S128 (extractStridedSlice S4x32 ![0, 8] (bu a7) slices_S4x106_S4x32_0_8) shapeCasts_S4x32_S128
/-- The packed weight columns of the add vector. -/
def wp40 : FVec Ideal S642x128 .f32 := shapeCast S642x128 (extractStridedSlice S642x4x32 ![0, 0, 40] (wu a6) slices_S642x4x106_S642x4x32_0_0_40) shapeCasts_S642x4x32_S642x128
/-- The packed bias entries of the add vector. -/
def bp40 : FVec Ideal S128 .f32 := shapeCast S128 (extractStridedSlice S4x32 ![0, 40] (bu a7) slices_S4x106_S4x32_0_40) shapeCasts_S4x32_S128
/-- The packed weight columns of the key. -/
def wp72 : FVec Ideal S642x128 .f32 := shapeCast S642x128 (extractStridedSlice S642x4x32 ![0, 0, 72] (wu a6) slices_S642x4x106_S642x4x32_0_0_72) shapeCasts_S642x4x32_S642x128
/-- The packed bias entries of the key. -/
def bp72 : FVec Ideal S128 .f32 := shapeCast S128 (extractStridedSlice S4x32 ![0, 72] (bu a7) slices_S4x106_S4x32_0_72) shapeCasts_S4x32_S128
/-- The packed weight. -/
def wcat : FVec Ideal S642x1024 .f32 := concatenate S642x1024 1 [⟨S642x256, a2⟩, ⟨S642x256, a4⟩, ⟨S642x12, wp0 a6⟩, ⟨S642x4, wp3 a6⟩, ⟨S642x12, wp4 a6⟩, ⟨S642x4, wp7 a6⟩, ⟨S642x4, wp104 a6⟩, ⟨S642x4, wp105 a6⟩, ⟨S642x88, wp_⟩, ⟨S642x128, wp8 a6⟩, ⟨S642x128, wp40 a6⟩, ⟨S642x128, wp72 a6⟩]
  concatenates_S642x256_S642x256_S642x12_S642x4_S642x12_S642x4_S642x4_S642x4_S642x88_S642x128_S642x128_S642x128_S642x1024_d1
/-- The packed bias. -/
def bcat : FVec Ideal S1024 .f32 := concatenate S1024 0 [⟨S256, a3⟩, ⟨S256, a5⟩, ⟨S12, bp0 a7⟩, ⟨S4, bp3 a7⟩, ⟨S12, bp4 a7⟩, ⟨S4, bp7 a7⟩, ⟨S4, bp104 a7⟩, ⟨S4, bp105 a7⟩, ⟨S88, bp_⟩, ⟨S128, bp8 a7⟩, ⟨S128, bp40 a7⟩, ⟨S128, bp72 a7⟩]
  concatenates_S256_S256_S12_S4_S12_S4_S4_S4_S88_S128_S128_S128_S1024_d0
end pieces

variable (m : (ℓ : Loc nD τ sig) → Buf (Elt Ideal) ℓ) (c : Dev nD)

/-- The packed weight at the region's entry. -/
def Wm : FVec Ideal S642x1024 .f32 := wcat (m ((c.tc : Thread nD τ).loc main_arg2)) (m ((c.tc : Thread nD τ).loc main_arg4)) (m ((c.tc : Thread nD τ).loc main_arg6))
/-- The packed bias at the region's entry. -/
def Bm : FVec Ideal S1024 .f32 := bcat (m ((c.tc : Thread nD τ).loc main_arg3)) (m ((c.tc : Thread nD τ).loc main_arg5)) (m ((c.tc : Thread nD τ).loc main_arg7))

/-- The inputs as the kernel takes them: time first. -/
theorem V57 : (V m c main_v57 : FVec Ideal S512x32x258 .f32)
    = transpose S512x32x258 [1, 0, 2] (m ((c.tc : Thread nD τ).loc main_arg0) : FVec Ideal S32x512x258 .f32) transposes_S32x512x258_S512x32x258_1_0_2 := by
  dsimp only [V, V0]
  simp only [List.flatten_cons, List.flatten_nil, List.append_nil]
  after_reads_simp
set_option maxHeartbeats 1600000 in
/-- The packed bias as one row. -/
theorem V46 : (V m c main_v46 : FVec Ideal S1x1024 .f32) = shapeCast S1x1024 (Bm m c) shapeCasts_S1024_S1x1024 := by
  dsimp only [V, V0]
  simp only [List.flatten_cons, List.flatten_nil, List.append_nil]
  after_reads_simp
  dsimp only [Matrix.cons_val]
  rfl
set_option maxHeartbeats 1600000 in
/-- The input rows of the upper half of the packed weight. -/
theorem V51 : (V m c main_v51 : FVec Ideal S258x1024 .bf16)
    = extractStridedSlice S258x1024 ![0, 0] (truncf .bf16 (Wm m c) bitsLt_bf16_f32) slices_S642x1024_S258x1024_0_0 := by
  dsimp only [V, V0]
  simp only [List.flatten_cons, List.flatten_nil, List.append_nil]
  after_reads_simp
  dsimp only [Matrix.cons_val]
  rfl
set_option maxHeartbeats 1600000 in
/-- The input rows of the lower half of the packed weight. -/
theorem V52 : (V m c main_v52 : FVec Ideal S258x1024 .bf16)
    = extractStridedSlice S258x1024 ![0, 0] (truncf .bf16 (subf (Wm m c) (extf .f32 (truncf .bf16 (Wm m c) bitsLt_bf16_f32) bitsLt_bf16_f32)) bitsLt_bf16_f32)
      slices_S642x1024_S258x1024_0_0 := by
  dsimp only [V, V0]
  simp only [List.flatten_cons, List.flatten_nil, List.append_nil]
  after_reads_simp
  dsimp only [Matrix.cons_val]
  rfl
set_option maxHeartbeats 1600000 in
/-- The state rows of the upper half of the packed weight. -/
theorem V53 : (V m c main_v53 : FVec Ideal S256x1024 .bf16)
    = extractStridedSlice S256x1024 ![258, 0] (truncf .bf16 (Wm m c) bitsLt_bf16_f32) slices_S642x1024_S256x1024_258_0 := by
  dsimp only [V, V0]
  simp only [List.flatten_cons, List.flatten_nil, List.append_nil]
  after_reads_simp
  dsimp only [Matrix.cons_val]
  rfl
set_option maxHeartbeats 1600000 in
/-- The state rows of the lower half of the packed weight. -/
theorem V54 : (V m c main_v54 : FVec Ideal S256x1024 .bf16)
    = extractStridedSlice S256x1024 ![258, 0] (truncf .bf16 (subf (Wm m c) (extf .f32 (truncf .bf16 (Wm m c) bitsLt_bf16_f32) bitsLt_bf16_f32)) bitsLt_bf16_f32)
      slices_S642x1024_S256x1024_258_0 := by
  dsimp only [V, V0]
  simp only [List.flatten_cons, List.flatten_nil, List.append_nil]
  after_reads_simp
  dsimp only [Matrix.cons_val]
  rfl
set_option maxHeartbeats 1600000 in
/-- The read rows of the upper half of the packed weight. -/
theorem V55 : (V m c main_v55 : FVec Ideal S128x1024 .bf16)
    = extractStridedSlice S128x1024 ![514, 0] (truncf .bf16 (Wm m c) bitsLt_bf16_f32) slices_S642x1024_S128x1024_514_0 := by
  dsimp only [V, V0]
  simp only [List.flatten_cons, List.flatten_nil, List.append_nil]
  after_reads_simp
  dsimp only [Matrix.cons_val]
  rfl
set_option maxHeartbeats 1600000 in
/-- The read rows of the lower half of the packed weight. -/
theorem V56 : (V m c main_v56 : FVec Ideal S128x1024 .bf16)
    = extractStridedSlice S128x1024 ![514, 0] (truncf .bf16 (subf (Wm m c) (extf .f32 (truncf .bf16 (Wm m c) bitsLt_bf16_f32) bitsLt_bf16_f32)) bitsLt_bf16_f32)
      slices_S642x1024_S128x1024_514_0 := by
  dsimp only [V, V0]
  simp only [List.flatten_cons, List.flatten_nil, List.append_nil]
  after_reads_simp
  dsimp only [Matrix.cons_val]
  rfl

end Cert.KRun
-- ==== Proof.KPack.lean ====
module

public import proofs.«01_k».proof.Proof.KEntry

@[expose] public section

set_option maxRecDepth 16384

noncomputable section

open Idealize.ShloMosaic Idealize.ShloMosaic.TcCoe Idealize.SL.Sem
open Cert.KernelIdeal Cert.KernelIdeal.Gen

/-! The packed weight and bias, column by column. -/

namespace Cert.KRun
open Cert.Cell Cert.KMath Cert.KPoint

section pieces
variable (a2 : Vec Ideal S642x256 .f32) (a3 : Vec Ideal S256 .f32) (a4 : Vec Ideal S642x256 .f32) (a5 : Vec Ideal S256 .f32)
  (a6 : Vec Ideal S642x424 .f32) (a7 : Vec Ideal S424 .f32)

/-- The update matrix with its columns split by head. -/
theorem wu_at (k : Fin 642) (h : Fin 4) (p : Fin 106) : wu a6 (ix3 k h p) = a6 (ix2 k ⟨h.val * 106 + p.val, by omega⟩) := by
  pointwise [wu]
/-- The update bias split by head. -/
theorem bu_at (h : Fin 4) (p : Fin 106) : bu a7 (ix2 h p) = a7 (ix1 ⟨h.val * 106 + p.val, by omega⟩) := by
  pointwise [bu]
/-- The columns of the state within the packed weight. -/
theorem wcat_0 (k : Fin 642) (i : Fin 256) : wcat a2 a4 a6 (ix2 k ⟨i.val, by omega⟩) = a2 (ix2 k i) := by
  pointwise [wcat]
/-- The entries of the state within the packed bias. -/
theorem bcat_0 (i : Fin 256) : bcat a3 a5 a7 (ix1 ⟨i.val, by omega⟩) = a3 (ix1 i) := by
  pointwise [bcat]
/-- The columns of the output within the packed weight. -/
theorem wcat_1 (k : Fin 642) (i : Fin 256) : wcat a2 a4 a6 (ix2 k ⟨256 + i.val, by omega⟩) = a4 (ix2 k i) := by
  pointwise [wcat]
/-- The entries of the output within the packed bias. -/
theorem bcat_1 (i : Fin 256) : bcat a3 a5 a7 (ix1 ⟨256 + i.val, by omega⟩) = a5 (ix1 i) := by
  pointwise [bcat]
/-- The columns of the shift scores within the packed weight. -/
theorem wcat_2 (k : Fin 642) (i : Fin 12) : wcat a2 a4 a6 (ix2 k ⟨512 + i.val, by omega⟩) = wp0 a6 (ix2 k i) := by
  pointwise [wcat]
  rw [dif_neg (by omega), dif_neg (by omega), dif_pos (by omega)]
  exact congrArg _ (congrArg (ix2 k) (Fin.ext (by dsimp only; omega)))
/-- The entries of the shift scores within the packed bias. -/
theorem bcat_2 (i : Fin 12) : bcat a3 a5 a7 (ix1 ⟨512 + i.val, by omega⟩) = bp0 a7 (ix1 i) := by
  pointwise [bcat]
  rw [dif_neg (by omega), dif_neg (by omega), dif_pos (by omega)]
  exact congrArg _ (congrArg ix1 (Fin.ext (by dsimp only; omega)))
/-- The columns of the gate of the dynamic weights within the packed weight. -/
theorem wcat_3 (k : Fin 642) (i : Fin 4) : wcat a2 a4 a6 (ix2 k ⟨524 + i.val, by omega⟩) = wp3 a6 (ix2 k i) := by
  pointwise [wcat]
  rw [dif_neg (by omega), dif_neg (by omega), dif_neg (by omega), dif_pos (by omega)]
  exact congrArg _ (congrArg (ix2 k) (Fin.ext (by dsimp only; omega)))
/-- The entries of the gate of the dynamic weights within the packed bias. -/
theorem bcat_3 (i : Fin 4) : bcat a3 a5 a7 (ix1 ⟨524 + i.val, by omega⟩) = bp3 a7 (ix1 i) := by
  pointwise [bcat]
  rw [dif_neg (by omega), dif_neg (by omega), dif_neg (by omega), dif_pos (by omega)]
  exact congrArg _ (congrArg ix1 (Fin.ext (by dsimp only; omega)))
/-- The columns of the jump scores within the packed weight. -/
theorem wcat_4 (k : Fin 642) (i : Fin 12) : wcat a2 a4 a6 (ix2 k ⟨528 + i.val, by omega⟩) = wp4 a6 (ix2 k i) := by
  pointwise [wcat]
  rw [dif_neg (by omega), dif_neg (by omega), dif_neg (by omega), dif_neg (by omega), dif_pos (by omega)]
  exact congrArg _ (congrArg (ix2 k) (Fin.ext (by dsimp only; omega)))
/-- The entries of the jump scores within the packed bias. -/
theorem bcat_4 (i : Fin 12) : bcat a3 a5 a7 (ix1 ⟨528 + i.val, by omega⟩) = bp4 a7 (ix1 i) := by
  pointwise [bcat]
  rw [dif_neg (by omega), dif_neg (by omega), dif_neg (by omega), dif_neg (by omega), dif_pos (by omega)]
  exact congrArg _ (congrArg ix1 (Fin.ext (by dsimp only; omega)))
/-- The columns of the sharpening exponent within the packed weight. -/
theorem wcat_5 (k : Fin 642) (i : Fin 4) : wcat a2 a4 a6 (ix2 k ⟨540 + i.val, by omega⟩) = wp7 a6 (ix2 k i) := by
  pointwise [wcat]
  rw [dif_neg (by omega), dif_neg (by omega), dif_neg (by omega), dif_neg (by omega), dif_neg (by omega), dif_pos (by omega)]
  exact congrArg _ (congrArg (ix2 k) (Fin.ext (by dsimp only; omega)))
/-- The entries of the sharpening exponent within the packed bias. -/
theorem bcat_5 (i : Fin 4) : bcat a3 a5 a7 (ix1 ⟨540 + i.val, by omega⟩) = bp7 a7 (ix1 i) := by
  pointwise [bcat]
  rw [dif_neg (by omega), dif_neg (by omega), dif_neg (by omega), dif_neg (by omega), dif_neg (by omega), dif_pos (by omega)]
  exact congrArg _ (congrArg ix1 (Fin.ext (by dsimp only; omega)))
/-- The columns of the key strength within the packed weight. -/
theorem wcat_6 (k : Fin 642) (i : Fin 4) : wcat a2 a4 a6 (ix2 k ⟨544 + i.val, by omega⟩) = wp104 a6 (ix2 k i) := by
  pointwise [wcat]
  rw [dif_neg (by omega), dif_neg (by omega), dif_neg (by omega), dif_neg (by omega), dif_neg (by omega), dif_neg (by omega), dif_pos (by omega)]
  exact congrArg _ (congrArg (ix2 k) (Fin.ext (by dsimp only; omega)))
/-- The entries of the key strength within the packed bias. -/
theorem bcat_6 (i : Fin 4) : bcat a3 a5 a7 (ix1 ⟨544 + i.val, by omega⟩) = bp104 a7 (ix1 i) := by
  pointwise [bcat]
  rw [dif_neg (by omega), dif_neg (by omega), dif_neg (by omega), dif_neg (by omega), dif_neg (by omega), dif_neg (by omega), dif_pos (by omega)]
  exact congrArg _ (congrArg ix1 (Fin.ext (by dsimp only; omega)))
/-- The columns of the content gate within the packed weight. -/
theorem wcat_7 (k : Fin 642) (i : Fin 4) : wcat a2 a4 a6 (ix2 k ⟨548 + i.val, by omega⟩) = wp105 a6 (ix2 k i) := by
  pointwise [wcat]
  rw [dif_neg (by omega), dif_neg (by omega), dif_neg (by omega), dif_neg (by omega), dif_neg (by omega), dif_neg (by omega), dif_neg (by omega), dif_pos (by omega)]
  exact congrArg _ (congrArg (ix2 k) (Fin.ext (by dsimp only; omega)))
/-- The entries of the content gate within the packed bias. -/
theorem bcat_7 (i : Fin 4) : bcat a3 a5 a7 (ix1 ⟨548 + i.val, by omega⟩) = bp105 a7 (ix1 i) := by
  pointwise [bcat]
  rw [dif_neg (by omega), dif_neg (by omega), dif_neg (by omega), dif_neg (by omega), dif_neg (by omega), dif_neg (by omega), dif_neg (by omega), dif_pos (by omega)]
  exact congrArg _ (congrArg ix1 (Fin.ext (by dsimp only; omega)))
/-- The columns of the erase vector within the packed weight. -/
theorem wcat_9 (k : Fin 642) (i : Fin 128) : wcat a2 a4 a6 (ix2 k ⟨640 + i.val, by omega⟩) = wp8 a6 (ix2 k i) := by
  pointwise [wcat]
  rw [dif_neg (by omega), dif_neg (by omega), dif_neg (by omega), dif_neg (by omega), dif_neg (by omega), dif_neg (by omega), dif_neg (by omega), dif_neg (by omega), dif_neg (by omega), dif_pos (by omega)]
  exact congrArg _ (congrArg (ix2 k) (Fin.ext (by dsimp only; omega)))
/-- The entries of the erase vector within the packed bias. -/
theorem bcat_9 (i : Fin 128) : bcat a3 a5 a7 (ix1 ⟨640 + i.val, by omega⟩) = bp8 a7 (ix1 i) := by
  pointwise [bcat]
  rw [dif_neg (by omega), dif_neg (by omega), dif_neg (by omega), dif_neg (by omega), dif_neg (by omega), dif_neg (by omega), dif_neg (by omega), dif_neg (by omega), dif_neg (by omega), dif_pos (by omega)]
  exact congrArg _ (congrArg ix1 (Fin.ext (by dsimp only; omega)))
/-- The columns of the add vector within the packed weight. -/
theorem wcat_10 (k : Fin 642) (i : Fin 128) : wcat a2 a4 a6 (ix2 k ⟨768 + i.val, by omega⟩) = wp40 a6 (ix2 k i) := by
  pointwise [wcat]
  rw [dif_neg (by omega), dif_neg (by omega), dif_neg (by omega), dif_neg (by omega), dif_neg (by omega), dif_neg (by omega), dif_neg (by omega), dif_neg (by omega), dif_neg (by omega), dif_neg (by omega), dif_pos (by omega)]
  exact congrArg _ (congrArg (ix2 k) (Fin.ext (by dsimp only; omega)))
/-- The entries of the add vector within the packed bias. -/
theorem bcat_10 (i : Fin 128) : bcat a3 a5 a7 (ix1 ⟨768 + i.val, by omega⟩) = bp40 a7 (ix1 i) := by
  pointwise [bcat]
  rw [dif_neg (by omega), dif_neg (by omega), dif_neg (by omega), dif_neg (by omega), dif_neg (by omega), dif_neg (by omega), dif_neg (by omega), dif_neg (by omega), dif_neg (by omega), dif_neg (by omega), dif_pos (by omega)]
  exact congrArg _ (congrArg ix1 (Fin.ext (by dsimp only; omega)))
/-- The columns of the key within the packed weight. -/
theorem wcat_11 (k : Fin 642) (i : Fin 128) : wcat a2 a4 a6 (ix2 k ⟨896 + i.val, by omega⟩) = wp72 a6 (ix2 k i) := by
  pointwise [wcat]
  rw [dif_neg (by omega), dif_neg (by omega), dif_neg (by omega), dif_neg (by omega), dif_neg (by omega), dif_neg (by omega), dif_neg (by omega), dif_neg (by omega), dif_neg (by omega), dif_neg (by omega), dif_neg (by omega)]
  exact congrArg _ (congrArg (ix2 k) (Fin.ext (by dsimp only; omega)))
/-- The entries of the key within the packed bias. -/
theorem bcat_11 (i : Fin 128) : bcat a3 a5 a7 (ix1 ⟨896 + i.val, by omega⟩) = bp72 a7 (ix1 i) := by
  pointwise [bcat]
  rw [dif_neg (by omega), dif_neg (by omega), dif_neg (by omega), dif_neg (by omega), dif_neg (by omega), dif_neg (by omega), dif_neg (by omega), dif_neg (by omega), dif_neg (by omega), dif_neg (by omega), dif_neg (by omega)]
  exact congrArg _ (congrArg ix1 (Fin.ext (by dsimp only; omega)))
/-- The packed weight column of the first shift score of a head is a column of the update matrix. -/
theorem wcol_s0 (k : Fin 642) (h : Fin 4) : wcat a2 a4 a6 (ix2 k ⟨512 + h.val, by omega⟩) = a6 (ix2 k ⟨h.val * 106 + 0, by omega⟩) := by
  have e : wp0 a6 (ix2 k ⟨0 + h.val, by omega⟩) = a6 (ix2 k ⟨h.val * 106 + 0, by omega⟩) := by
    pointwise [wp0, wu_at]
    exact congrArg _ (congrArg (ix2 k) (Fin.ext (by dsimp only; omega)))
  refine Eq.trans ?_ ((wcat_2 a2 a4 a6 k ⟨0 + h.val, by omega⟩).trans e)
  exact congrArg _ (congrArg (ix2 k) (Fin.ext (by dsimp only; omega)))
/-- The packed bias entry of the first shift score of a head is an entry of the update bias. -/
theorem bcol_s0 (h : Fin 4) : bcat a3 a5 a7 (ix1 ⟨512 + h.val, by omega⟩) = a7 (ix1 ⟨h.val * 106 + 0, by omega⟩) := by
  have e : bp0 a7 (ix1 ⟨0 + h.val, by omega⟩) = a7 (ix1 ⟨h.val * 106 + 0, by omega⟩) := by
    pointwise [bp0, bu_at]
    exact congrArg _ (congrArg ix1 (Fin.ext (by dsimp only; omega)))
  refine Eq.trans ?_ ((bcat_2 a3 a5 a7 ⟨0 + h.val, by omega⟩).trans e)
  exact congrArg _ (congrArg ix1 (Fin.ext (by dsimp only; omega)))
/-- The packed weight column of the second shift score of a head is a column of the update matrix. -/
theorem wcol_s1 (k : Fin 642) (h : Fin 4) : wcat a2 a4 a6 (ix2 k ⟨516 + h.val, by omega⟩) = a6 (ix2 k ⟨h.val * 106 + 1, by omega⟩) := by
  have e : wp0 a6 (ix2 k ⟨4 + h.val, by omega⟩) = a6 (ix2 k ⟨h.val * 106 + 1, by omega⟩) := by
    pointwise [wp0, wu_at]
    exact congrArg _ (congrArg (ix2 k) (Fin.ext (by dsimp only; omega)))
  refine Eq.trans ?_ ((wcat_2 a2 a4 a6 k ⟨4 + h.val, by omega⟩).trans e)
  exact congrArg _ (congrArg (ix2 k) (Fin.ext (by dsimp only; omega)))
/-- The packed bias entry of the second shift score of a head is an entry of the update bias. -/
theorem bcol_s1 (h : Fin 4) : bcat a3 a5 a7 (ix1 ⟨516 + h.val, by omega⟩) = a7 (ix1 ⟨h.val * 106 + 1, by omega⟩) := by
  have e : bp0 a7 (ix1 ⟨4 + h.val, by omega⟩) = a7 (ix1 ⟨h.val * 106 + 1, by omega⟩) := by
    pointwise [bp0, bu_at]
    exact congrArg _ (congrArg ix1 (Fin.ext (by dsimp only; omega)))
  refine Eq.trans ?_ ((bcat_2 a3 a5 a7 ⟨4 + h.val, by omega⟩).trans e)
  exact congrArg _ (congrArg ix1 (Fin.ext (by dsimp only; omega)))
/-- The packed weight column of the third shift score of a head is a column of the update matrix. -/
theorem wcol_s2 (k : Fin 642) (h : Fin 4) : wcat a2 a4 a6 (ix2 k ⟨520 + h.val, by omega⟩) = a6 (ix2 k ⟨h.val * 106 + 2, by omega⟩) := by
  have e : wp0 a6 (ix2 k ⟨8 + h.val, by omega⟩) = a6 (ix2 k ⟨h.val * 106 + 2, by omega⟩) := by
    pointwise [wp0, wu_at]
    exact congrArg _ (congrArg (ix2 k) (Fin.ext (by dsimp only; omega)))
  refine Eq.trans ?_ ((wcat_2 a2 a4 a6 k ⟨8 + h.val, by omega⟩).trans e)
  exact congrArg _ (congrArg (ix2 k) (Fin.ext (by dsimp only; omega)))
/-- The packed bias entry of the third shift score of a head is an entry of the update bias. -/
theorem bcol_s2 (h : Fin 4) : bcat a3 a5 a7 (ix1 ⟨520 + h.val, by omega⟩) = a7 (ix1 ⟨h.val * 106 + 2, by omega⟩) := by
  have e : bp0 a7 (ix1 ⟨8 + h.val, by omega⟩) = a7 (ix1 ⟨h.val * 106 + 2, by omega⟩) := by
    pointwise [bp0, bu_at]
    exact congrArg _ (congrArg ix1 (Fin.ext (by dsimp only; omega)))
  refine Eq.trans ?_ ((bcat_2 a3 a5 a7 ⟨8 + h.val, by omega⟩).trans e)
  exact congrArg _ (congrArg ix1 (Fin.ext (by dsimp only; omega)))
/-- The packed weight column of the gate of the dynamic weights of a head is a column of the update matrix. -/
theorem wcol_jd (k : Fin 642) (h : Fin 4) : wcat a2 a4 a6 (ix2 k ⟨524 + h.val, by omega⟩) = a6 (ix2 k ⟨h.val * 106 + 3, by omega⟩) := by
  have e : wp3 a6 (ix2 k ⟨0 + h.val, by omega⟩) = a6 (ix2 k ⟨h.val * 106 + 3, by omega⟩) := by
    pointwise [wp3, wu_at]
  refine Eq.trans ?_ ((wcat_3 a2 a4 a6 k ⟨0 + h.val, by omega⟩).trans e)
  exact congrArg _ (congrArg (ix2 k) (Fin.ext (by dsimp only; omega)))
/-- The packed bias entry of the gate of the dynamic weights of a head is an entry of the update bias. -/
theorem bcol_jd (h : Fin 4) : bcat a3 a5 a7 (ix1 ⟨524 + h.val, by omega⟩) = a7 (ix1 ⟨h.val * 106 + 3, by omega⟩) := by
  have e : bp3 a7 (ix1 ⟨0 + h.val, by omega⟩) = a7 (ix1 ⟨h.val * 106 + 3, by omega⟩) := by
    pointwise [bp3, bu_at]
  refine Eq.trans ?_ ((bcat_3 a3 a5 a7 ⟨0 + h.val, by omega⟩).trans e)
  exact congrArg _ (congrArg ix1 (Fin.ext (by dsimp only; omega)))
/-- The packed weight column of the first jump score of a head is a column of the update matrix. -/
theorem wcol_j0 (k : Fin 642) (h : Fin 4) : wcat a2 a4 a6 (ix2 k ⟨528 + h.val, by omega⟩) = a6 (ix2 k ⟨h.val * 106 + 4, by omega⟩) := by
  have e : wp4 a6 (ix2 k ⟨0 + h.val, by omega⟩) = a6 (ix2 k ⟨h.val * 106 + 4, by omega⟩) := by
    pointwise [wp4, wu_at]
    exact congrArg _ (congrArg (ix2 k) (Fin.ext (by dsimp only; omega)))
  refine Eq.trans ?_ ((wcat_4 a2 a4 a6 k ⟨0 + h.val, by omega⟩).trans e)
  exact congrArg _ (congrArg (ix2 k) (Fin.ext (by dsimp only; omega)))
/-- The packed bias entry of the first jump score of a head is an entry of the update bias. -/
theorem bcol_j0 (h : Fin 4) : bcat a3 a5 a7 (ix1 ⟨528 + h.val, by omega⟩) = a7 (ix1 ⟨h.val * 106 + 4, by omega⟩) := by
  have e : bp4 a7 (ix1 ⟨0 + h.val, by omega⟩) = a7 (ix1 ⟨h.val * 106 + 4, by omega⟩) := by
    pointwise [bp4, bu_at]
    exact congrArg _ (congrArg ix1 (Fin.ext (by dsimp only; omega)))
  refine Eq.trans ?_ ((bcat_4 a3 a5 a7 ⟨0 + h.val, by omega⟩).trans e)
  exact congrArg _ (congrArg ix1 (Fin.ext (by dsimp only; omega)))
/-- The packed weight column of the second jump score of a head is a column of the update matrix. -/
theorem wcol_j1 (k : Fin 642) (h : Fin 4) : wcat a2 a4 a6 (ix2 k ⟨532 + h.val, by omega⟩) = a6 (ix2 k ⟨h.val * 106 + 5, by omega⟩) := by
  have e : wp4 a6 (ix2 k ⟨4 + h.val, by omega⟩) = a6 (ix2 k ⟨h.val * 106 + 5, by omega⟩) := by
    pointwise [wp4, wu_at]
    exact congrArg _ (congrArg (ix2 k) (Fin.ext (by dsimp only; omega)))
  refine Eq.trans ?_ ((wcat_4 a2 a4 a6 k ⟨4 + h.val, by omega⟩).trans e)
  exact congrArg _ (congrArg (ix2 k) (Fin.ext (by dsimp only; omega)))
/-- The packed bias entry of the second jump score of a head is an entry of the update bias. -/
theorem bcol_j1 (h : Fin 4) : bcat a3 a5 a7 (ix1 ⟨532 + h.val, by omega⟩) = a7 (ix1 ⟨h.val * 106 + 5, by omega⟩) := by
  have e : bp4 a7 (ix1 ⟨4 + h.val, by omega⟩) = a7 (ix1 ⟨h.val * 106 + 5, by omega⟩) := by
    pointwise [bp4, bu_at]
    exact congrArg _ (congrArg ix1 (Fin.ext (by dsimp only; omega)))
  refine Eq.trans ?_ ((bcat_4 a3 a5 a7 ⟨4 + h.val, by omega⟩).trans e)
  exact congrArg _ (congrArg ix1 (Fin.ext (by dsimp only; omega)))
/-- The packed weight column of the third jump score of a head is a column of the update matrix. -/
theorem wcol_j2 (k : Fin 642) (h : Fin 4) : wcat a2 a4 a6 (ix2 k ⟨536 + h.val, by omega⟩) = a6 (ix2 k ⟨h.val * 106 + 6, by omega⟩) := by
  have e : wp4 a6 (ix2 k ⟨8 + h.val, by omega⟩) = a6 (ix2 k ⟨h.val * 106 + 6, by omega⟩) := by
    pointwise [wp4, wu_at]
    exact congrArg _ (congrArg (ix2 k) (Fin.ext (by dsimp only; omega)))
  refine Eq.trans ?_ ((wcat_4 a2 a4 a6 k ⟨8 + h.val, by omega⟩).trans e)
  exact congrArg _ (congrArg (ix2 k) (Fin.ext (by dsimp only; omega)))
/-- The packed bias entry of the third jump score of a head is an entry of the update bias. -/
theorem bcol_j2 (h : Fin 4) : bcat a3 a5 a7 (ix1 ⟨536 + h.val, by omega⟩) = a7 (ix1 ⟨h.val * 106 + 6, by omega⟩) := by
  have e : bp4 a7 (ix1 ⟨8 + h.val, by omega⟩) = a7 (ix1 ⟨h.val * 106 + 6, by omega⟩) := by
    pointwise [bp4, bu_at]
    exact congrArg _ (congrArg ix1 (Fin.ext (by dsimp only; omega)))
  refine Eq.trans ?_ ((bcat_4 a3 a5 a7 ⟨8 + h.val, by omega⟩).trans e)
  exact congrArg _ (congrArg ix1 (Fin.ext (by dsimp only; omega)))
/-- The packed weight column of the sharpening exponent of a head is a column of the update matrix. -/
theorem wcol_ga (k : Fin 642) (h : Fin 4) : wcat a2 a4 a6 (ix2 k ⟨540 + h.val, by omega⟩) = a6 (ix2 k ⟨h.val * 106 + 7, by omega⟩) := by
  have e : wp7 a6 (ix2 k ⟨0 + h.val, by omega⟩) = a6 (ix2 k ⟨h.val * 106 + 7, by omega⟩) := by
    pointwise [wp7, wu_at]
  refine Eq.trans ?_ ((wcat_5 a2 a4 a6 k ⟨0 + h.val, by omega⟩).trans e)
  exact congrArg _ (congrArg (ix2 k) (Fin.ext (by dsimp only; omega)))
/-- The packed bias entry of the sharpening exponent of a head is an entry of the update bias. -/
theorem bcol_ga (h : Fin 4) : bcat a3 a5 a7 (ix1 ⟨540 + h.val, by omega⟩) = a7 (ix1 ⟨h.val * 106 + 7, by omega⟩) := by
  have e : bp7 a7 (ix1 ⟨0 + h.val, by omega⟩) = a7 (ix1 ⟨h.val * 106 + 7, by omega⟩) := by
    pointwise [bp7, bu_at]
  refine Eq.trans ?_ ((bcat_5 a3 a5 a7 ⟨0 + h.val, by omega⟩).trans e)
  exact congrArg _ (congrArg ix1 (Fin.ext (by dsimp only; omega)))
/-- The packed weight column of the key strength of a head is a column of the update matrix. -/
theorem wcol_be (k : Fin 642) (h : Fin 4) : wcat a2 a4 a6 (ix2 k ⟨544 + h.val, by omega⟩) = a6 (ix2 k ⟨h.val * 106 + 104, by omega⟩) := by
  have e : wp104 a6 (ix2 k ⟨0 + h.val, by omega⟩) = a6 (ix2 k ⟨h.val * 106 + 104, by omega⟩) := by
    pointwise [wp104, wu_at]
  refine Eq.trans ?_ ((wcat_6 a2 a4 a6 k ⟨0 + h.val, by omega⟩).trans e)
  exact congrArg _ (congrArg (ix2 k) (Fin.ext (by dsimp only; omega)))
/-- The packed bias entry of the key strength of a head is an entry of the update bias. -/
theorem bcol_be (h : Fin 4) : bcat a3 a5 a7 (ix1 ⟨544 + h.val, by omega⟩) = a7 (ix1 ⟨h.val * 106 + 104, by omega⟩) := by
  have e : bp104 a7 (ix1 ⟨0 + h.val, by omega⟩) = a7 (ix1 ⟨h.val * 106 + 104, by omega⟩) := by
    pointwise [bp104, bu_at]
  refine Eq.trans ?_ ((bcat_6 a3 a5 a7 ⟨0 + h.val, by omega⟩).trans e)
  exact congrArg _ (congrArg ix1 (Fin.ext (by dsimp only; omega)))
/-- The packed weight column of the content gate of a head is a column of the update matrix. -/
theorem wcol_gt (k : Fin 642) (h : Fin 4) : wcat a2 a4 a6 (ix2 k ⟨548 + h.val, by omega⟩) = a6 (ix2 k ⟨h.val * 106 + 105, by omega⟩) := by
  have e : wp105 a6 (ix2 k ⟨0 + h.val, by omega⟩) = a6 (ix2 k ⟨h.val * 106 + 105, by omega⟩) := by
    pointwise [wp105, wu_at]
  refine Eq.trans ?_ ((wcat_7 a2 a4 a6 k ⟨0 + h.val, by omega⟩).trans e)
  exact congrArg _ (congrArg (ix2 k) (Fin.ext (by dsimp only; omega)))
/-- The packed bias entry of the content gate of a head is an entry of the update bias. -/
theorem bcol_gt (h : Fin 4) : bcat a3 a5 a7 (ix1 ⟨548 + h.val, by omega⟩) = a7 (ix1 ⟨h.val * 106 + 105, by omega⟩) := by
  have e : bp105 a7 (ix1 ⟨0 + h.val, by omega⟩) = a7 (ix1 ⟨h.val * 106 + 105, by omega⟩) := by
    pointwise [bp105, bu_at]
  refine Eq.trans ?_ ((bcat_7 a3 a5 a7 ⟨0 + h.val, by omega⟩).trans e)
  exact congrArg _ (congrArg ix1 (Fin.ext (by dsimp only; omega)))
/-- The packed weight column of the erase vector of a head is a column of the update matrix. -/
theorem wcol_er (k : Fin 642) (h : Fin 4) (m : Fin 32) : wcat a2 a4 a6 (ix2 k ⟨640 + (h.val * 32 + m.val), by omega⟩) = a6 (ix2 k ⟨h.val * 106 + (8 + m.val), by omega⟩) := by
  have e : wp8 a6 (ix2 k ⟨h.val * 32 + m.val, by omega⟩) = a6 (ix2 k ⟨h.val * 106 + (8 + m.val), by omega⟩) := by
    pointwise [wp8, wu_at]
  refine Eq.trans ?_ ((wcat_9 a2 a4 a6 k ⟨h.val * 32 + m.val, by omega⟩).trans e)
  exact congrArg _ (congrArg (ix2 k) (Fin.ext (by rfl)))
/-- The packed bias entry of the erase vector of a head is an entry of the update bias. -/
theorem bcol_er (h : Fin 4) (m : Fin 32) : bcat a3 a5 a7 (ix1 ⟨640 + (h.val * 32 + m.val), by omega⟩) = a7 (ix1 ⟨h.val * 106 + (8 + m.val), by omega⟩) := by
  have e : bp8 a7 (ix1 ⟨h.val * 32 + m.val, by omega⟩) = a7 (ix1 ⟨h.val * 106 + (8 + m.val), by omega⟩) := by
    pointwise [bp8, bu_at]
  refine Eq.trans ?_ ((bcat_9 a3 a5 a7 ⟨h.val * 32 + m.val, by omega⟩).trans e)
  exact congrArg _ (congrArg ix1 (Fin.ext (by rfl)))
/-- The packed weight column of the add vector of a head is a column of the update matrix. -/
theorem wcol_ad (k : Fin 642) (h : Fin 4) (m : Fin 32) : wcat a2 a4 a6 (ix2 k ⟨768 + (h.val * 32 + m.val), by omega⟩) = a6 (ix2 k ⟨h.val * 106 + (40 + m.val), by omega⟩) := by
  have e : wp40 a6 (ix2 k ⟨h.val * 32 + m.val, by omega⟩) = a6 (ix2 k ⟨h.val * 106 + (40 + m.val), by omega⟩) := by
    pointwise [wp40, wu_at]
  refine Eq.trans ?_ ((wcat_10 a2 a4 a6 k ⟨h.val * 32 + m.val, by omega⟩).trans e)
  exact congrArg _ (congrArg (ix2 k) (Fin.ext (by rfl)))
/-- The packed bias entry of the add vector of a head is an entry of the update bias. -/
theorem bcol_ad (h : Fin 4) (m : Fin 32) : bcat a3 a5 a7 (ix1 ⟨768 + (h.val * 32 + m.val), by omega⟩) = a7 (ix1 ⟨h.val * 106 + (40 + m.val), by omega⟩) := by
  have e : bp40 a7 (ix1 ⟨h.val * 32 + m.val, by omega⟩) = a7 (ix1 ⟨h.val * 106 + (40 + m.val), by omega⟩) := by
    pointwise [bp40, bu_at]
  refine Eq.trans ?_ ((bcat_10 a3 a5 a7 ⟨h.val * 32 + m.val, by omega⟩).trans e)
  exact congrArg _ (congrArg ix1 (Fin.ext (by rfl)))
/-- The packed weight column of the key of a head is a column of the update matrix. -/
theorem wcol_ke (k : Fin 642) (h : Fin 4) (m : Fin 32) : wcat a2 a4 a6 (ix2 k ⟨896 + (h.val * 32 + m.val), by omega⟩) = a6 (ix2 k ⟨h.val * 106 + (72 + m.val), by omega⟩) := by
  have e : wp72 a6 (ix2 k ⟨h.val * 32 + m.val, by omega⟩) = a6 (ix2 k ⟨h.val * 106 + (72 + m.val), by omega⟩) := by
    pointwise [wp72, wu_at]
  refine Eq.trans ?_ ((wcat_11 a2 a4 a6 k ⟨h.val * 32 + m.val, by omega⟩).trans e)
  exact congrArg _ (congrArg (ix2 k) (Fin.ext (by rfl)))
/-- The packed bias entry of the key of a head is an entry of the update bias. -/
theorem bcol_ke (h : Fin 4) (m : Fin 32) : bcat a3 a5 a7 (ix1 ⟨896 + (h.val * 32 + m.val), by omega⟩) = a7 (ix1 ⟨h.val * 106 + (72 + m.val), by omega⟩) := by
  have e : bp72 a7 (ix1 ⟨h.val * 32 + m.val, by omega⟩) = a7 (ix1 ⟨h.val * 106 + (72 + m.val), by omega⟩) := by
    pointwise [bp72, bu_at]
  refine Eq.trans ?_ ((bcat_11 a3 a5 a7 ⟨h.val * 32 + m.val, by omega⟩).trans e)
  exact congrArg _ (congrArg ix1 (Fin.ext (by rfl)))

/-- Every packed entry is real. -/
theorem wcat_real (h2 : ∀ i, ∃ r : ℝ, a2 i = (r : EReal)) (h4 : ∀ i, ∃ r : ℝ, a4 i = (r : EReal))
    (h6 : ∀ i, ∃ r : ℝ, a6 i = (r : EReal)) (j : S642x1024.Idx) : ∃ r : ℝ, wcat a2 a4 a6 j = (r : EReal) := by
  unfold wcat
  refine concatenate_forall (P := fun x : EReal => ∃ r : ℝ, x = (r : EReal)) _ _ _ _ ?_ _
  intro p hp
  simp only [List.mem_cons, List.not_mem_nil, or_false] at hp
  rcases hp with rfl | rfl | rfl | rfl | rfl | rfl | rfl | rfl | rfl | rfl | rfl | rfl
  · exact h2
  · exact h4
  · exact fun i => h6 _
  · exact fun i => h6 _
  · exact fun i => h6 _
  · exact fun i => h6 _
  · exact fun i => h6 _
  · exact fun i => h6 _
  · exact fun i => ⟨0, by
      show Ideal.ofBits FTy.f32 0#32 = _
      simp [Ideal.ofBits, Ideal.ieee]⟩
  · exact fun i => h6 _
  · exact fun i => h6 _
  · exact fun i => h6 _
end pieces
end Cert.KRun
-- ==== Proof.KBlocks.lean ====
module

public import proofs.«01_k».proof.Proof.KPack

@[expose] public section

set_option maxRecDepth 16384

noncomputable section

open Idealize.ShloMosaic Idealize.ShloMosaic.TcCoe Idealize.SL.Sem
open Cert.KernelIdeal Cert.KernelIdeal.Gen

/-! The blocks the kernel reads at every point: that time's inputs, and the packed weights split into a whole part and a
    vanishing rest. -/

namespace Cert.KRun
open Cert.Cell Cert.KMath Cert.KPoint

variable (m : (ℓ : Loc nD τ sig) → Buf (Elt Ideal) ℓ) (c : Dev nD)

/-- Window 0 at a grid point: the input block of a time step. -/
theorem iblk0_at (t : Fin cfg0.N) (b : Fin 32) (k : Fin 258) :
    (iblk m c 0 t : Vec Ideal S1x32x258 .f32) (ix3 0 b k)
      = (m ((c.tc : Thread nD τ).loc main_arg0) : Vec Ideal S32x512x258 .f32) (ix3 b (time t) k) := by
  have ht : t.val < 512 := t.isLt.trans_le (le_of_eq N_0)
  have e0 : win0_0.index t 0 = t.val := by
    have e : (grid0.coords t 0).val = t.val / 1 % 512 := Pipeline.Grid.coords_val t 0 (by decide) rfl
    show (BitVec.ofNat 32 (grid0.coords t 0).val).toNat = t.val
    rw [e, BitVec.toNat_ofNat]
    omega
  have e : ∀ y : FVec Ideal S32x512x258 .f32,
      transpose S512x32x258 [1, 0, 2] y transposes_S32x512x258_S512x32x258_1_0_2 (ix3 (time t) b k) = y (ix3 b (time t) k) := fun y => by
    pointwise []
  refine Eq.trans ?_ ((congrFun (V57 m c) _).trans (e _))
  unfold iblk
  rw [View.read_apply]
  show V m c main_v57 _ = V m c main_v57 _
  congr 1
  funext a
  refine Fin.ext ?_
  match a with
  | ⟨0, _⟩ => show win0_0.index t 0 * 1 + 1 * 0 = t.val; rw [e0]; omega
  | ⟨1, _⟩ => show 0 * 32 + 1 * b.val = b.val; omega
  | ⟨2, _⟩ => show 0 * 258 + 1 * k.val = k.val; omega

/-- Window 1 at a grid point: the upper half of the input rows of the packed weight. -/
theorem iblk1_at (t : Fin cfg0.N) (k : Fin 258) (j : Fin 1024) :
    (iblk m c 1 t : Vec Ideal S258x1024 .bf16) (ix2 k j) = (V m c main_v51 : Vec Ideal S258x1024 .bf16) (ix2 k j) := by
  unfold iblk
  rw [View.read_apply]
  show V m c main_v51 _ = V m c main_v51 _
  congr 1
  funext a
  refine Fin.ext ?_
  match a with
  | ⟨0, _⟩ => show 0 * 258 + 1 * k.val = k.val; omega
  | ⟨1, _⟩ => show 0 * 1024 + 1 * j.val = j.val; omega

/-- Window 2 at a grid point: the lower half of the input rows. -/
theorem iblk2_at (t : Fin cfg0.N) (k : Fin 258) (j : Fin 1024) :
    (iblk m c 2 t : Vec Ideal S258x1024 .bf16) (ix2 k j) = (V m c main_v52 : Vec Ideal S258x1024 .bf16) (ix2 k j) := by
  unfold iblk
  rw [View.read_apply]
  show V m c main_v52 _ = V m c main_v52 _
  congr 1
  funext a
  refine Fin.ext ?_
  match a with
  | ⟨0, _⟩ => show 0 * 258 + 1 * k.val = k.val; omega
  | ⟨1, _⟩ => show 0 * 1024 + 1 * j.val = j.val; omega

/-- Window 3 at a grid point: the upper half of the state rows. -/
theorem iblk3_at (t : Fin cfg0.N) (k : Fin 256) (j : Fin 1024) :
    (iblk m c 3 t : Vec Ideal S256x1024 .bf16) (ix2 k j) = (V m c main_v53 : Vec Ideal S256x1024 .bf16) (ix2 k j) := by
  unfold iblk
  rw [View.read_apply]
  show V m c main_v53 _ = V m c main_v53 _
  congr 1
  funext a
  refine Fin.ext ?_
  match a with
  | ⟨0, _⟩ => show 0 * 256 + 1 * k.val = k.val; omega
  | ⟨1, _⟩ => show 0 * 1024 + 1 * j.val = j.val; omega

/-- Window 4 at a grid point: the lower half of the state rows. -/
theorem iblk4_at (t : Fin cfg0.N) (k : Fin 256) (j : Fin 1024) :
    (iblk m c 4 t : Vec Ideal S256x1024 .bf16) (ix2 k j) = (V m c main_v54 : Vec Ideal S256x1024 .bf16) (ix2 k j) := by
  unfold iblk
  rw [View.read_apply]
  show V m c main_v54 _ = V m c main_v54 _
  congr 1
  funext a
  refine Fin.ext ?_
  match a with
  | ⟨0, _⟩ => show 0 * 256 + 1 * k.val = k.val; omega
  | ⟨1, _⟩ => show 0 * 1024 + 1 * j.val = j.val; omega

/-- Window 5 at a grid point: the upper half of the read rows. -/
theorem iblk5_at (t : Fin cfg0.N) (k : Fin 128) (j : Fin 1024) :
    (iblk m c 5 t : Vec Ideal S128x1024 .bf16) (ix2 k j) = (V m c main_v55 : Vec Ideal S128x1024 .bf16) (ix2 k j) := by
  unfold iblk
  rw [View.read_apply]
  show V m c main_v55 _ = V m c main_v55 _
  congr 1
  funext a
  refine Fin.ext ?_
  match a with
  | ⟨0, _⟩ => show 0 * 128 + 1 * k.val = k.val; omega
  | ⟨1, _⟩ => show 0 * 1024 + 1 * j.val = j.val; omega

/-- Window 6 at a grid point: the lower half of the read rows. -/
theorem iblk6_at (t : Fin cfg0.N) (k : Fin 128) (j : Fin 1024) :
    (iblk m c 6 t : Vec Ideal S128x1024 .bf16) (ix2 k j) = (V m c main_v56 : Vec Ideal S128x1024 .bf16) (ix2 k j) := by
  unfold iblk
  rw [View.read_apply]
  show V m c main_v56 _ = V m c main_v56 _
  congr 1
  funext a
  refine Fin.ext ?_
  match a with
  | ⟨0, _⟩ => show 0 * 128 + 1 * k.val = k.val; omega
  | ⟨1, _⟩ => show 0 * 1024 + 1 * j.val = j.val; omega

/-- Window 7 at a grid point: the packed bias. -/
theorem iblk7_at (t : Fin cfg0.N) (k : Fin 1) (j : Fin 1024) :
    (iblk m c 7 t : Vec Ideal S1x1024 .f32) (ix2 k j) = (V m c main_v46 : Vec Ideal S1x1024 .f32) (ix2 k j) := by
  unfold iblk
  rw [View.read_apply]
  show V m c main_v46 _ = V m c main_v46 _
  congr 1
  funext a
  refine Fin.ext ?_
  match a with
  | ⟨0, _⟩ => show 0 * 1 + 1 * k.val = k.val; omega
  | ⟨1, _⟩ => show 0 * 1024 + 1 * j.val = j.val; omega

/-- The packed weight, an entry, as a real. -/
def packed (k : Fin 642) (j : Fin 1024) : ℝ := (Wm m c (ix2 k j) : EReal).toReal

variable {m c} {P : Par} {X : Fin 512 → Fin 32 → Fin 258 → ℝ}

section
variable (ha : Args P X (m ((c.tc : Thread nD τ).loc main_arg0)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))
  (m ((c.tc : Thread nD τ).loc main_arg7)))
include ha

/-- The packed weight's entries are real. -/
theorem Wm_at (k : Fin 642) (j : Fin 1024) : Wm m c (ix2 k j) = ((packed m c k j : ℝ) : EReal) := by
  have e : ∀ {n₀ n₁ : ℕ} (i : (⟨2, ![n₀, n₁]⟩ : Shape).Idx), ix2 (i 0) (i 1) = i := fun i => by
    funext a
    match a with
    | ⟨0, _⟩ => rfl
    | ⟨1, _⟩ => rfl
  obtain ⟨r, hr⟩ := wcat_real _ _ _ (fun i => ⟨_, (congrArg _ (e i).symm).trans (ha.Ws (i 0) (i 1))⟩)
    (fun i => ⟨_, (congrArg _ (e i).symm).trans (ha.Wo (i 0) (i 1))⟩)
    (fun i => ⟨_, (congrArg _ (e i).symm).trans (ha.Wu (i 0) (i 1))⟩) (ix2 k j)
  unfold packed
  rw [show Wm m c (ix2 k j) = (r : EReal) from hr]
  rfl

/-- At every point the kernel reads that time's inputs and the packed weights. -/
theorem blocks : Blocks m c P X (packed m c) where
  b t := by
    have hW := Wm_at ha
    refine ⟨fun b k => (iblk0_at m c t b k).trans (ha.xs b (time t) k), fun k j => ?_, fun k j => ?_, fun k j => ?_,
      fun k j => ?_, fun k j => ?_, fun k j => ?_⟩
    · rw [iblk1_at, V51]; pointwise [hW]
    · rw [iblk2_at, V52]; pointwise [hW]; rw [← EReal.coe_sub, sub_self]
    · rw [iblk3_at, V53]; pointwise [hW]
    · rw [iblk4_at, V54]; pointwise [hW]; rw [← EReal.coe_sub, sub_self]
    · rw [iblk5_at, V55]; pointwise [hW]
    · rw [iblk6_at, V56]; pointwise [hW]; rw [← EReal.coe_sub, sub_self]
  p t := by
    have hx : ∀ j : Fin 1024, (iblk m c 7 t : Vec Ideal S1x1024 .f32) (ix2 0 j) = Bm m c (ix1 j) := fun j => by
      rw [iblk7_at, V46]
      pointwise []
    have hs : ∀ (k : Fin 642) (j : Fin 1024) (r : ℝ), Wm m c (ix2 k j) = (r : EReal) → packed m c k j = r := fun k j r h => by
      unfold packed; rw [h]; rfl
    have col : ∀ (j : Fin 1024) (p : Fin 424), (∀ k, Wm m c (ix2 k j) = (m ((c.tc : Thread nD τ).loc main_arg6) : Vec Ideal S642x424 .f32) (ix2 k p)) →
        Bm m c (ix1 j) = (m ((c.tc : Thread nD τ).loc main_arg7) : Vec Ideal S424 .f32) (ix1 p) →
        Col P (packed m c) (iblk m c 7 t) j p := fun j p h h' =>
      ⟨fun k => hs k j _ ((h k).trans (ha.Wu k p)), (hx j).trans (h'.trans (ha.bu p))⟩
    refine ⟨fun j => ⟨fun k => hs _ _ _ ((wcat_0 _ _ _ k j).trans (ha.Ws k j)), (hx _).trans ((bcat_0 _ _ _ j).trans (ha.bs j))⟩,
      fun j => ⟨fun k => hs _ _ _ ((wcat_1 _ _ _ k j).trans (ha.Wo k j)), (hx _).trans ((bcat_1 _ _ _ j).trans (ha.bo j))⟩,
      fun h => col _ _ (fun k => wcol_s0 _ _ _ k h) (bcol_s0 _ _ _ h),
      fun h => col _ _ (fun k => wcol_s1 _ _ _ k h) (bcol_s1 _ _ _ h),
      fun h => col _ _ (fun k => wcol_s2 _ _ _ k h) (bcol_s2 _ _ _ h),
      fun h => col _ _ (fun k => wcol_jd _ _ _ k h) (bcol_jd _ _ _ h),
      fun h => col _ _ (fun k => wcol_j0 _ _ _ k h) (bcol_j0 _ _ _ h),
      fun h => col _ _ (fun k => wcol_j1 _ _ _ k h) (bcol_j1 _ _ _ h),
      fun h => col _ _ (fun k => wcol_j2 _ _ _ k h) (bcol_j2 _ _ _ h),
      fun h => col _ _ (fun k => wcol_ga _ _ _ k h) (bcol_ga _ _ _ h),
      fun h => col _ _ (fun k => wcol_be _ _ _ k h) (bcol_be _ _ _ h),
      fun h => col _ _ (fun k => wcol_gt _ _ _ k h) (bcol_gt _ _ _ h),
      fun h i => col _ _ (fun k => wcol_er _ _ _ k h i) (bcol_er _ _ _ h i),
      fun h i => col _ _ (fun k => wcol_ad _ _ _ k h i) (bcol_ad _ _ _ h i),
      fun h i => col _ _ (fun k => wcol_ke _ _ _ k h i) (bcol_ke _ _ _ h i)⟩

/-- The kernel's result, an entry, from finite arguments. -/
theorem result (b : Fin 32) (t : Fin 512) (j : Fin 256) :
    res m c (ix3 b t j) = outv P (X t b) (rows P X t.val b) j := res_eq (blocks ha) b t j
end

end Cert.KRun
-- ==== Proof.RMath.lean ====
module

public import proofs.«01_k».proof.Proof.Gen.ReferenceIdeal.Run
public import proofs.«01_k».proof.Proof.Cell
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Cert.ReferenceIdeal Cert.ReferenceIdeal.Gen Cert.ReferenceIdeal.Value

/-! What one trip of the reference's loop computes on real data is the cell's step. -/

namespace Cert.RMath
open Cert.Cell

/-- One row of the concatenation of the input, the state and the read vectors. -/
def comb (x : Fin 258 → ℝ) (s : Fin 256 → ℝ) (r : Fin 128 → ℝ) (k : Fin 642) : ℝ :=
  if h : k.val < 258 then x ⟨k.val, h⟩
  else if h' : k.val - 258 < 256 then s ⟨k.val - 258, h'⟩ else r ⟨k.val - 258 - 256, by omega⟩

/-- Its product with a column is the linear form. -/
theorem comb_sum (x : Fin 258 → ℝ) (s : Fin 256 → ℝ) (r : Fin 128 → ℝ) (W : Fin 642 → ℝ) :
    ∑ k, comb x s r k * W k = lin x s r W := by
  unfold lin
  rw [Fin.sum_univ_two_halves 258 384 rfl, Fin.sum_univ_two_halves 256 128 rfl, add_assoc]
  refine congrArg₂ _ (Finset.sum_congr rfl fun k _ => ?_) (congrArg₂ _ (Finset.sum_congr rfl fun k _ => ?_) (Finset.sum_congr rfl fun k _ => ?_))
  · rw [comb, dif_pos k.isLt]
  · rw [comb, dif_neg (by simp), dif_pos (by simp)]
    simp only [Nat.add_sub_cancel_left]
  · rw [comb, dif_neg (by simp), dif_neg (by simp)]
    refine congrArg₂ _ (congrArg _ (Fin.ext ?_)) (congrArg _ (Fin.ext ?_)) <;> simp only [] <;> omega

/-- One time's input, sliced at the counter. -/
theorem slice_time (x : FVec Ideal S512x32x258 .f32) (n : Fin 512) (b : Fin 32) (k : Fin 258) :
    Host.dynamicSlice S1x32x258 x (fun k => (((![fun _ => BitVec.ofNat 32 n.val, constantI S_ 32 0#32, constantI S_ 32 0#32] :
      Fin 3 → IVec S_ 32)) k (Shape.Idx.first h_S_)).toInt) sliceFits_S512x32x258_S1x32x258 (ix3 0 b k) = x (ix3 n b k) := by
  rw [Host.dynamicSlice_apply]
  refine congrArg x (funext fun a => Fin.ext ?_)
  match a with
  | ⟨0, _⟩ =>
    refine (congrArg (· + 0) (Host.clampedStart_of_le _ _ _ n.val ?_ ?_)).trans (Nat.add_zero _)
    · exact StableHlo.Predicate.toInt_ofNat_small _ (by omega)
    · show n.val + 1 ≤ 512
      omega
  | ⟨1, _⟩ => exact (congrArg (· + b.val) (Host.clampedStart_of_le _ _ _ 0 rfl (le_refl _))).trans (Nat.zero_add _)
  | ⟨2, _⟩ => exact (congrArg (· + k.val) (Host.clampedStart_of_le _ _ _ 0 rfl (le_refl _))).trans (Nat.zero_add _)

/-- Ones scattered along the first address of zeros. -/
theorem scatter_first (b : Fin 32) (h : Fin 4) (a : Fin 512) (x : FVec Ideal S32x4x512 .f32) (u : FVec Ideal S32x4 .f32) (o : EReal)
    (hu : ∀ k, u k = o) (idx : IVec S1 32) (hi : ∀ k, idx k = 0#32) :
    Host.scatter scatter_S32x4x512_S1_S32x4_01_2_2_0 (fun _ b => b) x idx u (ix3 b h a) = if a.val = 0 then o else x (ix3 b h a) := by
  have hs : ∀ (k : S32x4.Idx) (e : Fin 3), scatter_S32x4x512_S1_S32x4_01_2_2_0.start k idx e = 0 := fun k e => by
    unfold ScatterDims.start
    split
    · rw [hi]; rfl
    · rfl
  have h0 : ∀ k : S32x4.Idx, scatter_S32x4x512_S1_S32x4_01_2_2_0.window k 0 = (k 0).val := fun k => rfl
  have h1 : ∀ k : S32x4.Idx, scatter_S32x4x512_S1_S32x4_01_2_2_0.window k 1 = (k 1).val := fun k => rfl
  have h2 : ∀ k : S32x4.Idx, scatter_S32x4x512_S1_S32x4_01_2_2_0.window k 2 = 0 := fun k => rfl
  by_cases ha : a.val = 0
  · rw [if_pos ha]
    refine Routing.scatter_set_hit _ _ _ _ _ _ (fun k _ => hu k) (ix2 b h) ((Routing.resultIdx?_eq_some _ _ _ _).2 fun e => ?_)
    match e with
    | ⟨0, _⟩ => exact (congrArg₂ (fun (p : Int) (q : Nat) => p + (q : Int)) (hs _ 0) (h0 _)).trans (zero_add _)
    | ⟨1, _⟩ => exact (congrArg₂ (fun (p : Int) (q : Nat) => p + (q : Int)) (hs _ 1) (h1 _)).trans (zero_add _)
    | ⟨2, _⟩ =>
      refine (congrArg₂ (fun (p : Int) (q : Nat) => p + (q : Int)) (hs _ 2) (h2 _)).trans ?_
      show (0 : Int) + ((0 : Nat) : Int) = (a.val : Int)
      omega
  · rw [if_neg ha]
    refine Routing.scatter_set_miss _ _ _ _ _ fun k hk => ha ?_
    have q := (Routing.resultIdx?_eq_some _ _ _ _).1 hk 2
    have q' : (0 : Int) + ((0 : Nat) : Int) = (a.val : Int) := (congrArg₂ (fun (p : Int) (q : Nat) => p + (q : Int)) (hs k 2) (h2 k)).symm.trans q
    omega

/-- The reference's softplus of a real. -/
theorem sp_lift (x : ℝ) (y : EReal) :
    (if (x : EReal) ≠ (x : EReal) then y
      else max (x : EReal) 0 + Ideal.log1p (Ideal.exp (-FloatOps.absf (F := Ideal) (φ := .f32) (x : EReal)))) = ((splus x : ℝ) : EReal) := by
  rw [if_neg (fun h => h rfl), ← splus_lift]
  rfl

/-- Minus infinity as printed. -/
theorem ninf : Ideal.ofBits FTy.f32 4286578688#32 = (⊥ : EReal) := by
  simp [Ideal.ofBits, Ideal.ieee]

/-- The loop's buffers before a trip: the counter, the real arguments, the real rows. -/
structure At (P : Par) (X : Fin 512 → Fin 32 → Fin 258 → ℝ) (c : Fin 32 → Carry) (n : Fin 512) (V : Valuation τ sig (Elt Ideal)) :
    Prop where
  ctr : (V (Proc.devRef .tc main_v8_7) : IVec S_ 32) = fun _ => BitVec.ofNat 32 n.val
  xs : ∀ (t : Fin 512) (b : Fin 32) (k : Fin 258),
    (V (Proc.devRef .tc main_v8_0) : FVec Ideal S512x32x258 .f32) (ix3 t b k) = ((X t b k : ℝ) : EReal)
  Ws : ∀ (k : Fin 642) (j : Fin 256), (V (Proc.devRef .tc main_v8_1) : FVec Ideal S642x256 .f32) (ix2 k j) = ((P.Ws k j : ℝ) : EReal)
  bs : ∀ (j : Fin 256), (V (Proc.devRef .tc main_v8_2) : FVec Ideal S256 .f32) (ix1 j) = P.bs j
  Wo : ∀ (k : Fin 642) (j : Fin 256), (V (Proc.devRef .tc main_v8_3) : FVec Ideal S642x256 .f32) (ix2 k j) = ((P.Wo k j : ℝ) : EReal)
  bo : ∀ (j : Fin 256), (V (Proc.devRef .tc main_v8_4) : FVec Ideal S256 .f32) (ix1 j) = P.bo j
  Wu : ∀ (k : Fin 642) (j : Fin 424), (V (Proc.devRef .tc main_v8_5) : FVec Ideal S642x424 .f32) (ix2 k j) = ((P.Wu k j : ℝ) : EReal)
  bu : ∀ (j : Fin 424), (V (Proc.devRef .tc main_v8_6) : FVec Ideal S424 .f32) (ix1 j) = ((P.bu j : ℝ) : EReal)
  s : ∀ (b : Fin 32) (j : Fin 256), (V (Proc.devRef .tc main_v8_8) : FVec Ideal S32x256 .f32) (ix2 b j) = (((c b).s j : ℝ) : EReal)
  w : ∀ (b : Fin 32) (h : Fin 4) (a : Fin 512),
    (V (Proc.devRef .tc main_v8_9) : FVec Ideal S32x4x512 .f32) (ix3 b h a) = (((c b).w h a : ℝ) : EReal)
  d : ∀ (b : Fin 32) (h : Fin 4) (a : Fin 512),
    (V (Proc.devRef .tc main_v8_10) : FVec Ideal S32x4x512 .f32) (ix3 b h a) = (((c b).d h a : ℝ) : EReal)
  M : ∀ (b : Fin 32) (m : Fin 32) (a : Fin 512),
    (V (Proc.devRef .tc main_v8_11) : FVec Ideal S32x32x512 .f32) (ix3 b m a) = (((c b).M m a : ℝ) : EReal)

section
variable {P : Par} {X : Fin 512 → Fin 32 → Fin 258 → ℝ} {c : Fin 32 → Carry} {n : Fin 512} {V : Valuation τ sig (Elt Ideal)}
  (hV : At P X c n V)
include hV

/-- The concatenated rows. -/
theorem v13 (b : Fin 32) (k : Fin 642) :
    (res_main_while0b_v13 V : FVec Ideal S32x642 .f32) (ix2 b k) = ((comb (X n b) (c b).s (rd (c b).w (c b).M) k : ℝ) : EReal) := by
  have hx : ∀ (b : Fin 32) (k : Fin 258), Host.dynamicSlice S1x32x258 (V (Proc.devRef .tc main_v8_0) : FVec Ideal S512x32x258 .f32)
      (fun k => (((![fun _ => BitVec.ofNat 32 n.val, constantI S_ 32 0#32, constantI S_ 32 0#32] :
      Fin 3 → IVec S_ 32)) k (Shape.Idx.first h_S_)).toInt) sliceFits_S512x32x258_S1x32x258 (ix3 0 b k) = ((X n b k : ℝ) : EReal) :=
    fun b k => (slice_time _ n b k).trans (hV.xs n b k)
  unfold res_main_while0b_v13
  rw [hV.ctr]
  generalize Host.dynamicSlice S1x32x258 _ _ _ = y at hx ⊢
  pointwise [hV.s, hV.w, hV.M, hx]
  simp only [← EReal.coe_mul, coe_sum, comb, rd]
  split_ifs <;> rfl

/-- The update parameters as the reference computes them. -/
theorem v32 (b : Fin 32) (h : Fin 4) (p : Fin 106) :
    (res_main_while0b_v32 V : FVec Ideal S32x4x106 .f32) (ix3 b h p) = ((upd P (X n b) (c b) h p : ℝ) : EReal) := by
  unfold res_main_while0b_v32
  pointwise [v13 hV, hV.Wu, hV.bu]
  simp only [← EReal.coe_mul, coe_sum, ← EReal.coe_add]
  refine congrArg _ ?_
  rw [comb_sum]; rfl

end
end Cert.RMath
-- ==== Proof.RHeads.lean ====
module

public import proofs.«01_k».proof.Proof.RMath

@[expose] public section

set_option maxRecDepth 16384

noncomputable section

open Idealize.ShloMosaic Idealize.ShloMosaic.TcCoe Idealize.SL.Sem
open Cert.ReferenceIdeal Cert.ReferenceIdeal.Gen Cert.ReferenceIdeal.Value

/-! The heads of the reference's trip, on real data. -/

namespace Cert.RMath
open Cert.Cell

/-- The maximum along the last axis of a real array of three scores a head is a real. -/
theorem max3 (y : FVec Ideal S32x4x3 .f32) (v : Fin 32 → Fin 4 → Fin 3 → ℝ)
    (hy : ∀ (b : Fin 32) (h : Fin 4) (i : Fin 3), y (ix3 b h i) = ((v b h i : ℝ) : EReal)) (b : Fin 32) (h : Fin 4) :
    ∃ r : ℝ, Host.reduce (FloatOps.maximumf (F := Ideal) (φ := .f32)) y (constant S_ .f32 0xFF800000#32) reducesTo_S32x4x3_S32x4_d2 h_S_ (ix2 b h)
      = (r : EReal) := by
  obtain ⟨r, hr⟩ := fold_max (v b h)
  refine ⟨r, ?_⟩
  pointwise [hy, ninf]
  exact hr

/-- The maximum along the last axis of a real array of scores over the addresses is a real. -/
theorem max512 (y : FVec Ideal S32x4x512 .f32) (v : Fin 32 → Fin 4 → Fin 512 → ℝ)
    (hy : ∀ (b : Fin 32) (h : Fin 4) (i : Fin 512), y (ix3 b h i) = ((v b h i : ℝ) : EReal)) (b : Fin 32) (h : Fin 4) :
    ∃ r : ℝ, Host.reduce (FloatOps.maximumf (F := Ideal) (φ := .f32)) y (constant S_ .f32 0xFF800000#32) reducesTo_S32x4x512_S32x4_d2 h_S_ (ix2 b h)
      = (r : EReal) := by
  obtain ⟨r, hr⟩ := fold_max (v b h)
  refine ⟨r, ?_⟩
  pointwise [hy, ninf]
  exact hr

/-- One time's output, written at the counter. -/
theorem update_time (x : FVec Ideal S512x32x256 .f32) (y : FVec Ideal S1x32x256 .f32) (n t : Fin 512) (b : Fin 32) (j : Fin 256) :
    Host.dynamicUpdateSlice x y (fun k => (((![fun _ => BitVec.ofNat 32 n.val, constantI S_ 32 0#32, constantI S_ 32 0#32] :
      Fin 3 → IVec S_ 32)) k (Shape.Idx.first h_S_)).toInt) updateFits_S512x32x256_S1x32x256 (ix3 t b j)
      = if t = n then y (ix3 0 b j) else x (ix3 t b j) := by
  have c0 := Host.clampedStart_of_le (s := S512x32x256) (t := S1x32x256) rfl
    (fun k => (((![fun _ => BitVec.ofNat 32 n.val, constantI S_ 32 0#32, constantI S_ 32 0#32] : Fin 3 → IVec S_ 32)) k (Shape.Idx.first h_S_)).toInt)
    0 n.val (StableHlo.Predicate.toInt_ofNat_small _ (by omega)) (by show n.val + 1 ≤ 512; omega)
  have c1 := Host.clampedStart_of_le (s := S512x32x256) (t := S1x32x256) rfl
    (fun k => (((![fun _ => BitVec.ofNat 32 n.val, constantI S_ 32 0#32, constantI S_ 32 0#32] : Fin 3 → IVec S_ 32)) k (Shape.Idx.first h_S_)).toInt)
    1 0 rfl (le_refl _)
  have c2 := Host.clampedStart_of_le (s := S512x32x256) (t := S1x32x256) rfl
    (fun k => (((![fun _ => BitVec.ofNat 32 n.val, constantI S_ 32 0#32, constantI S_ 32 0#32] : Fin 3 → IVec S_ 32)) k (Shape.Idx.first h_S_)).toInt)
    2 0 rfl (le_refl _)
  rw [Host.dynamicUpdateSlice_apply]
  by_cases e : t = n
  · rw [if_pos e, dif_pos]
    · refine congrArg y (funext fun a => Fin.ext ?_)
      match a with
      | ⟨0, _⟩ =>
        refine (congrArg (t.val - ·) c0).trans ?_
        rw [e, Nat.sub_self]
        rfl
      | ⟨1, _⟩ => exact congrArg (b.val - ·) c1
      | ⟨2, _⟩ => exact congrArg (j.val - ·) c2
    · intro a
      match a with
      | ⟨0, _⟩ =>
        refine ⟨c0.le.trans (by rw [← e]; exact le_refl _), lt_of_lt_of_eq ?_ (congrArg (· + 1) c0.symm)⟩
        show t.val < n.val + 1
        rw [e]
        omega
      | ⟨1, _⟩ => exact ⟨c1.le.trans (Nat.zero_le _), lt_of_lt_of_eq (show b.val < 0 + 32 by omega) (congrArg (· + 32) c1.symm)⟩
      | ⟨2, _⟩ => exact ⟨c2.le.trans (Nat.zero_le _), lt_of_lt_of_eq (show j.val < 0 + 256 by omega) (congrArg (· + 256) c2.symm)⟩
  · rw [if_neg e, dif_neg]
    intro hin
    obtain ⟨h1, h2⟩ := hin 0
    have h1' : n.val ≤ t.val := c0.symm.le.trans h1
    have h2' : t.val < n.val + 1 := lt_of_lt_of_eq h2 (congrArg (· + 1) c0)
    exact e (Fin.ext (by omega))

section
variable {P : Par} {X : Fin 512 → Fin 32 → Fin 258 → ℝ} {c : Fin 32 → Carry} {n : Fin 512} {V : Valuation τ sig (Elt Ideal)}
  (hV : At P X c n V)
include hV

/-- The reference's softplus of the shift scores. -/
theorem v42 (b : Fin 32) (h : Fin 4) (i : Fin 3) : (res_main_while0b_v42 V : FVec Ideal S32x4x3 .f32) (ix3 b h i)
    = ((sraw (upd P (X n b) (c b)) h i : ℝ) : EReal) := by
  unfold res_main_while0b_v42
  pointwise [res_main_while0b_call1_v3, res_main_while0b_call1_cst, res_main_while0b_v33, v32 hV]
  exact sp_lift _ _

/-- The exponentials of the reference's shift scores, less some real number. -/
theorem v49 (b : Fin 32) (h : Fin 4) : ∃ r : ℝ, ∀ i : Fin 3, (res_main_while0b_v49 V : FVec Ideal S32x4x3 .f32) (ix3 b h i)
    = ((Real.exp (sraw (upd P (X n b) (c b)) h i - r) : ℝ) : EReal) := by
  obtain ⟨r, hr⟩ := max3 (res_main_while0b_v42 V) (fun b => sraw (upd P (X n b) (c b))) (v42 hV) b h
  refine ⟨r, fun i => ?_⟩
  unfold res_main_while0b_v49
  generalize Host.reduce _ _ _ _ _ = y at hr ⊢
  pointwise [v42 hV, ninf, hr]
  rw [max_bot_left, ← EReal.coe_sub, Ideal.exp_coe]

/-- The reference's gate of the dynamic weights. -/
theorem v68 (b : Fin 32) (h : Fin 4) : (res_main_while0b_v68 V : FVec Ideal S32x4x1 .f32) (ix3 b h 0)
    = ((jd (upd P (X n b) (c b)) h : ℝ) : EReal) := by
  unfold res_main_while0b_v68
  pointwise [v32 hV]
  exact sigm_lift _

/-- The exponentials of the reference's jump scores, less some real number. -/
theorem v75 (b : Fin 32) (h : Fin 4) : ∃ r : ℝ, ∀ i : Fin 3, (res_main_while0b_v75 V : FVec Ideal S32x4x3 .f32) (ix3 b h i)
    = ((Real.exp (jraw (upd P (X n b) (c b)) h i - r) : ℝ) : EReal) := by
  have h35 : ∀ (b : Fin 32) (h : Fin 4) (i : Fin 3), (res_main_while0b_v35 V : FVec Ideal S32x4x3 .f32) (ix3 b h i)
      = ((jraw (upd P (X n b) (c b)) h i : ℝ) : EReal) := fun b h i => by
    pointwise [res_main_while0b_v35, v32 hV]
    rfl
  obtain ⟨r, hr⟩ := max3 (res_main_while0b_v35 V) (fun b => jraw (upd P (X n b) (c b))) h35 b h
  refine ⟨r, fun i => ?_⟩
  unfold res_main_while0b_v75
  generalize Host.reduce _ _ _ _ _ = y at hr ⊢
  pointwise [h35, ninf, hr]
  rw [max_bot_left, ← EReal.coe_sub, Ideal.exp_coe]

/-- The reference's key. -/
theorem v80 (b : Fin 32) (h : Fin 4) (m : Fin 32) : (res_main_while0b_v80 V : FVec Ideal S32x4x32 .f32) (ix3 b h m)
    = ((key (upd P (X n b) (c b)) h m : ℝ) : EReal) := by
  unfold res_main_while0b_v80
  pointwise [v32 hV]
  exact Ideal.tanh_coe _

/-- The reference's content gate. -/
theorem v87 (b : Fin 32) (h : Fin 4) : (res_main_while0b_v87 V : FVec Ideal S32x4x1 .f32) (ix3 b h 0)
    = ((gat (upd P (X n b) (c b)) h : ℝ) : EReal) := by
  unfold res_main_while0b_v87
  pointwise [v32 hV]
  exact sigm_lift _

/-- The reference's new dynamic weights. -/
theorem v94 (b : Fin 32) (h : Fin 4) (a : Fin 512) : (res_main_while0b_v94 V : FVec Ideal S32x4x512 .f32) (ix3 b h a)
    = ((dnew (upd P (X n b) (c b)) (c b).w (c b).d h a : ℝ) : EReal) := by
  unfold res_main_while0b_v94
  pointwise [v68 hV, hV.w, hV.d]
  simp only [one_coe, ← EReal.coe_mul, ← EReal.coe_sub, ← EReal.coe_add]
  rfl

/-- The reference's jump distribution. -/
theorem v79 (b : Fin 32) (h : Fin 4) (i : Fin 3) : (res_main_while0b_v79 V : FVec Ideal S32x4x3 .f32) (ix3 b h i)
    = ((jj (upd P (X n b) (c b)) h i : ℝ) : EReal) := by
  obtain ⟨r, hr⟩ := v75 hV b h
  unfold res_main_while0b_v79
  pointwise [hr]
  simp only [coe_sum]
  rw [div_lift _ _ (by positivity)]
  exact congrArg _ (smax_shift _ r i)

/-- The reference's weights after the jump. -/
theorem v109 (b : Fin 32) (h : Fin 4) (a : Fin 512) : (res_main_while0b_v109 V : FVec Ideal S32x4x512 .f32) (ix3 b h a)
    = ((wj (upd P (X n b) (c b)) (c b).w (c b).d h a : ℝ) : EReal) := by
  have hs : ∀ (b : Fin 32) (h : Fin 4) (a : Fin 512), Host.scatter scatter_S32x4x512_S1_S32x4_01_2_2_0 (fun _ b => b)
      (broadcastInDim S32x4x512 ![] bcast_S_S32x4x512 (constant (F := Ideal) S_ .f32 0x00000000#32))
      (broadcastInDim S1 ![] bcast_S_S1 (constantI S_ 32 0#32))
      (broadcastInDim S32x4 ![] bcast_S_S32x4 (constant (F := Ideal) S_ .f32 0x3F800000#32)) (ix3 b h a)
        = (((if a.val = 0 then 1 else 0 : ℝ)) : EReal) := by
    intro b h a
    refine (scatter_first b h a _ _ (Ideal.ofBits .f32 0x3F800000#32) (fun k => rfl) _ (fun k => rfl)).trans ?_
    pointwise []
    split_ifs <;> rfl
  unfold res_main_while0b_v109
  generalize Host.scatter _ _ _ _ _ = y at hs ⊢
  pointwise [v79 hV, v94 hV, hV.w, hs]
  simp only [← EReal.coe_mul, ← EReal.coe_add]
  rfl

/-- The reference's factor left of a slot by one head. -/
theorem v116 (b : Fin 32) (h : Fin 4) (m : Fin 32) (a : Fin 512) :
    (res_main_while0b_v116 V : FVec Ideal S32x4x32x512 .f32) (ix4 b h m a)
    = ((1 - ers (upd P (X n b) (c b)) h m * wj (upd P (X n b) (c b)) (c b).w (c b).d h a : ℝ) : EReal) := by
  unfold res_main_while0b_v116
  pointwise [v109 hV, v32 hV]
  rw [sigm_lift, one_coe, ← EReal.coe_mul, ← EReal.coe_sub]
  rfl

/-- The reference's new memory. -/
theorem v130 (b : Fin 32) (m : Fin 32) (a : Fin 512) : (res_main_while0b_v130 V : FVec Ideal S32x32x512 .f32) (ix3 b m a)
    = ((mnew (upd P (X n b) (c b)) (c b).w (c b).d (c b).M m a : ℝ) : EReal) := by
  unfold res_main_while0b_v130
  pointwise [v116 hV, v109 hV, v32 hV, hV.M]
  simp only [← EReal.coe_mul, coe_sum, ← EReal.coe_add]
  refine congrArg _ ?_
  unfold mnew
  rw [Fin.prod_univ_four]
  rfl

/-- The reference's scaled similarity of a key with a slot. -/
theorem v143 (b : Fin 32) (h : Fin 4) (a : Fin 512) : (res_main_while0b_v143 V : FVec Ideal S32x4x512 .f32) (ix3 b h a)
    = ((score (upd P (X n b) (c b)) (c b).w (c b).d (c b).M h a : ℝ) : EReal) := by
  have hk : ∀ (h : Fin 4) (m : Fin 32), Ideal.div ((key (upd P (X n b) (c b)) h m : ℝ) : EReal)
      ((knorm (upd P (X n b) (c b)) h : ℝ) : EReal) = ((key (upd P (X n b) (c b)) h m / knorm (upd P (X n b) (c b)) h : ℝ) : EReal) :=
    fun h m => div_lift _ _ (knorm_pos (upd P (X n b) (c b)) h).ne'
  have hm : ∀ (x : ℝ) (a : Fin 512), Ideal.div (x : EReal)
      ((mnorm (upd P (X n b) (c b)) (c b).w (c b).d (c b).M a : ℝ) : EReal)
        = ((x / mnorm (upd P (X n b) (c b)) (c b).w (c b).d (c b).M a : ℝ) : EReal) :=
    fun x a => div_lift _ _ (mnorm_pos (upd P (X n b) (c b)) (c b).M a).ne'
  have hs : ∀ f : Fin 32 → ℝ, Ideal.sqrt ((∑ i, f i * f i : ℝ) : EReal) = ((Real.sqrt (∑ i, f i * f i) : ℝ) : EReal) := fun f => by
    rw [Ideal.sqrt_coe, if_neg (not_lt.2 (Finset.sum_nonneg fun i _ => mul_self_nonneg _))]
  unfold res_main_while0b_v143
  pointwise [res_main_while0b_call3_v3, res_main_while0b_call3_cst, res_main_while0b_v40, v32 hV, v80 hV, v130 hV, eps_coe]
  rw [sp_lift]
  simp only [← EReal.coe_mul, coe_sum]
  rw [hs (key (upd P (X n b) (c b)) h), hs (fun m => mnew (upd P (X n b) (c b)) (c b).w (c b).d (c b).M m a), ← EReal.coe_add, ← EReal.coe_add]
  unfold knorm at hk
  unfold mnorm at hm
  simp only [hk, hm, ← EReal.coe_mul, coe_sum]
  rfl

/-- The exponentials of the reference's similarities, less some real number. -/
theorem v150 (b : Fin 32) (h : Fin 4) : ∃ r : ℝ, ∀ a : Fin 512, (res_main_while0b_v150 V : FVec Ideal S32x4x512 .f32) (ix3 b h a)
    = ((Real.exp (score (upd P (X n b) (c b)) (c b).w (c b).d (c b).M h a - r) : ℝ) : EReal) := by
  obtain ⟨r, hr⟩ := max512 (res_main_while0b_v143 V) (fun b => score (upd P (X n b) (c b)) (c b).w (c b).d (c b).M) (v143 hV) b h
  refine ⟨r, fun i => ?_⟩
  unfold res_main_while0b_v150
  generalize Host.reduce _ _ _ _ _ = y at hr ⊢
  pointwise [v143 hV, ninf, hr]
  rw [max_bot_left, ← EReal.coe_sub, Ideal.exp_coe]

/-- The reference's weights after content addressing. -/
theorem v161 (b : Fin 32) (h : Fin 4) (a : Fin 512) : (res_main_while0b_v161 V : FVec Ideal S32x4x512 .f32) (ix3 b h a)
    = ((wc (upd P (X n b) (c b)) (c b).w (c b).d (c b).M h a : ℝ) : EReal) := by
  obtain ⟨r, hr⟩ := v150 hV b h
  unfold res_main_while0b_v161
  pointwise [hr, v87 hV, v109 hV]
  simp only [coe_sum]
  rw [div_lift _ _ (by positivity), smax_shift, one_coe]
  simp only [← EReal.coe_mul, ← EReal.coe_sub, ← EReal.coe_add]
  rfl

/-- The reference's shifted weights raised to the sharpening exponent. -/
theorem v173 (hok : ∀ b, (c b).ok) (b : Fin 32) (h : Fin 4) (a : Fin 512) :
    (res_main_while0b_v173 V : FVec Ideal S32x4x512 .f32) (ix3 b h a)
    = ((Real.exp (sharp (upd P (X n b) (c b)) (c b).w (c b).d (c b).M h a) : ℝ) : EReal) := by
  obtain ⟨r, hr⟩ := v49 hV b h
  unfold res_main_while0b_v173
  pointwise [res_main_while0b_call2_v3, res_main_while0b_call2_cst, res_main_while0b_v36, v32 hV, hr, v161 hV, eps_coe]
  have hup : ∀ f : Fin 512 → ℝ, (if h : a.val < 511 then ((f ⟨1 + a.val, by omega⟩ : ℝ) : EReal) else ((f ⟨a.val - 511, by omega⟩ : ℝ) : EReal))
      = ((f (up a) : ℝ) : EReal) := fun f => by unfold up; split_ifs <;> rfl
  have hdn : ∀ f : Fin 512 → ℝ, (if h : a.val < 1 then ((f ⟨511 + a.val, by omega⟩ : ℝ) : EReal) else ((f ⟨a.val - 1, by omega⟩ : ℝ) : EReal))
      = ((f (dn a) : ℝ) : EReal) := fun f => by unfold dn; split_ifs <;> rfl
  have hsm : ∀ i : Fin 3, Ideal.div ((Real.exp (sraw (upd P (X n b) (c b)) h i - r) : ℝ) : EReal)
      ((∑ x : Fin 3, Real.exp (sraw (upd P (X n b) (c b)) h x - r) : ℝ) : EReal) = ((sft (upd P (X n b) (c b)) h i : ℝ) : EReal) := fun i => by
    rw [div_lift _ _ (by positivity)]
    exact congrArg _ (smax_shift _ r i)
  have hws := ws_pos (upd P (X n b) (c b)) (c b).M (hok b).1 (hok b).2 h a
  rw [sp_lift]
  simp only [coe_sum, hsm]
  rw [Fin.sum_univ_three, dif_pos (by decide : ((0 : Fin 3) : ℕ) < 1), dif_neg (by decide : ¬ ((1 : Fin 3) : ℕ) < 1),
    dif_pos (by decide : ((1 : Fin 3) : ℕ) - 1 < 1), dif_neg (by decide : ¬ ((2 : Fin 3) : ℕ) < 1),
    dif_neg (by decide : ¬ ((2 : Fin 3) : ℕ) - 1 < 1), hup (wc (upd P (X n b) (c b)) (c b).w (c b).d (c b).M h),
    hdn (wc (upd P (X n b) (c b)) (c b).w (c b).d (c b).M h)]
  simp only [one_coe, ← EReal.coe_mul, ← EReal.coe_add]
  rw [show wc (upd P (X n b) (c b)) (c b).w (c b).d (c b).M h (up a) * sft (upd P (X n b) (c b)) h 0
      + wc (upd P (X n b) (c b)) (c b).w (c b).d (c b).M h a * sft (upd P (X n b) (c b)) h 1
      + wc (upd P (X n b) (c b)) (c b).w (c b).d (c b).M h (dn a) * sft (upd P (X n b) (c b)) h 2 + eps
      = ws (upd P (X n b) (c b)) (c b).w (c b).d (c b).M h a from by unfold ws; ring, Ideal.pow_coe_coe]
  refine congrArg _ ?_
  show Real.rpow _ _ = _
  rw [Real.rpow_eq_pow, Real.rpow_def_of_pos hws, mul_comm]
  rfl

/-- The weights the trip leaves. -/
theorem step9 (hok : ∀ b, (c b).ok) (b : Fin 32) (h : Fin 4) (a : Fin 512) :
    (step_main_v8_9 V : FVec Ideal S32x4x512 .f32) (ix3 b h a) = (((step P (X n b) (c b)).w h a : ℝ) : EReal) := by
  unfold step_main_v8_9
  pointwise [id_eq, v173 hV hok]
  rw [coe_sum, div_lift _ _ (by positivity)]
  rfl

/-- The dynamic weights the trip leaves. -/
theorem step10 (b : Fin 32) (h : Fin 4) (a : Fin 512) :
    (step_main_v8_10 V : FVec Ideal S32x4x512 .f32) (ix3 b h a) = (((step P (X n b) (c b)).d h a : ℝ) : EReal) :=
  v94 hV b h a

/-- The memory the trip leaves. -/
theorem step11 (b : Fin 32) (m : Fin 32) (a : Fin 512) :
    (step_main_v8_11 V : FVec Ideal S32x32x512 .f32) (ix3 b m a) = (((step P (X n b) (c b)).M m a : ℝ) : EReal) :=
  v130 hV b m a

/-- The state the trip leaves. -/
theorem step8 (b : Fin 32) (j : Fin 256) :
    (step_main_v8_8 V : FVec Ideal S32x256 .f32) (ix2 b j) = (((step P (X n b) (c b)).s j : ℝ) : EReal) := by
  unfold step_main_v8_8
  pointwise [id_eq, v13 hV, hV.Ws, hV.bs]
  rw [logistic_any, logistic_real]
  simp only [← EReal.coe_mul, coe_sum, comb_sum]
  rfl

/-- The counter the trip leaves. -/
theorem step7 : (step_main_v8_7 V : IVec S_ 32) = fun _ => BitVec.ofNat 32 (n.val + 1) := by
  unfold step_main_v8_7
  rw [hV.ctr]
  funext k
  show BitVec.ofNat 32 n.val + 1#32 = _
  rw [BitVec.ofNat_add]

/-- The output array the trip leaves. -/
theorem step12 (t : Fin 512) (b : Fin 32) (j : Fin 256) :
    (step_main_v8_12 V : FVec Ideal S512x32x256 .f32) (ix3 t b j)
      = if t = n then outv P (X n b) (c b) j else (V (Proc.devRef .tc main_v8_12) : FVec Ideal S512x32x256 .f32) (ix3 t b j) := by
  unfold step_main_v8_12
  rw [hV.ctr]
  refine (update_time _ _ n t b j).trans ?_
  refine if_congr Iff.rfl ?_ rfl
  pointwise [v13 hV, hV.Wo, hV.bo]
  simp only [← EReal.coe_mul, coe_sum, comb_sum]
  rfl
end
end Cert.RMath
-- ==== Proof.RRun.lean ====
module

public import proofs.«01_k».proof.Proof.RHeads

@[expose] public section

set_option maxRecDepth 16384

noncomputable section

open Idealize.ShloMosaic Idealize.ShloMosaic.TcCoe Idealize.SL.Sem
open Cert.ReferenceIdeal Cert.ReferenceIdeal.Gen Cert.ReferenceIdeal.Value

/-! The reference's run on real data: the trips, the entry and the result. -/

namespace Cert.RMath
open Cert.Cell Idealize.ShloMosaic.StableHlo

variable {P : Par} {X : Fin 512 → Fin 32 → Fin 258 → ℝ}

/-- One trip takes the rows one step on. -/
theorem at_step {n : ℕ} (hn : n < 512) (hn' : n + 1 < 512) {V : Valuation τ sig (Elt Ideal)} (hV : At P X (rows P X n) ⟨n, hn⟩ V) :
    At P X (rows P X (n + 1)) ⟨n + 1, hn'⟩ (STEP V) where
  ctr := (STEP_main_v8_7 V).trans (step7 hV)
  xs t b k := (congrFun (STEP_main_v8_0 V) _).trans (hV.xs t b k)
  Ws k j := (congrFun (STEP_main_v8_1 V) _).trans (hV.Ws k j)
  bs j := (congrFun (STEP_main_v8_2 V) _).trans (hV.bs j)
  Wo k j := (congrFun (STEP_main_v8_3 V) _).trans (hV.Wo k j)
  bo j := (congrFun (STEP_main_v8_4 V) _).trans (hV.bo j)
  Wu k j := (congrFun (STEP_main_v8_5 V) _).trans (hV.Wu k j)
  bu j := (congrFun (STEP_main_v8_6 V) _).trans (hV.bu j)
  s b j := by
    rw [rows_succ P X ⟨n, hn⟩ b]
    exact (congrFun (STEP_main_v8_8 V) _).trans (step8 hV b j)
  w b h a := by
    rw [rows_succ P X ⟨n, hn⟩ b]
    exact (congrFun (STEP_main_v8_9 V) _).trans (step9 hV (rows_ok P X n) b h a)
  d b h a := by
    rw [rows_succ P X ⟨n, hn⟩ b]
    exact (congrFun (STEP_main_v8_10 V) _).trans (step10 hV b h a)
  M b m a := by
    rw [rows_succ P X ⟨n, hn⟩ b]
    exact (congrFun (STEP_main_v8_11 V) _).trans (step11 hV b m a)

/-- The rows before each trip. -/
theorem at_all {V : Valuation τ sig (Elt Ideal)} (hV : At P X (rows P X 0) ⟨0, by decide⟩ V) :
    ∀ (n : ℕ) (hn : n < 512), At P X (rows P X n) ⟨n, hn⟩ (STEP^[n] V)
  | 0, _ => hV
  | n + 1, hn => by
    rw [Function.iterate_succ_apply']
    exact at_step (Nat.lt_of_succ_lt hn) hn (at_all hV n _)

/-- After some trips the output array holds the outputs of those trips. -/
theorem out_all {V : Valuation τ sig (Elt Ideal)} (hV : At P X (rows P X 0) ⟨0, by decide⟩ V) :
    ∀ (n : ℕ) (_ : n ≤ 512) (t : Fin 512) (b : Fin 32) (j : Fin 256), t.val < n →
      ((STEP^[n] V) (Proc.devRef .tc main_v8_12) : FVec Ideal S512x32x256 .f32) (ix3 t b j) = outv P (X t b) (rows P X t.val b) j
  | 0, _, _, _, _, ht => absurd ht (Nat.not_lt_zero _)
  | n + 1, hn, t, b, j, ht => by
    rw [Function.iterate_succ_apply']
    refine (congrFun (STEP_main_v8_12 _) _).trans ((step12 (at_all hV n hn) t b j).trans ?_)
    by_cases e : t = ⟨n, hn⟩
    · rw [if_pos e, e]
    · rw [if_neg e]
      exact out_all hV n (Nat.le_of_succ_le hn) t b j (by
        have : t.val ≠ n := fun q => e (Fin.ext q)
        omega)

/-- The first address marked, as the entry computes it. -/
theorem onehot (b : Fin 32) (h : Fin 4) (a : Fin 512) :
    Host.scatter scatter_S32x4x512_S1_S32x4_01_2_2_0 (fun _ b => b)
      (broadcastInDim S32x4x512 ![] bcast_S_S32x4x512 (constant (F := Ideal) S_ .f32 0x00000000#32))
      (broadcastInDim S1 ![] bcast_S_S1 (constantI S_ 32 0#32))
      (broadcastInDim S32x4 ![] bcast_S_S32x4 (constant (F := Ideal) S_ .f32 0x3F800000#32)) (ix3 b h a)
        = (((if a.val = 0 then 1 else 0 : ℝ)) : EReal) := by
  refine (scatter_first b h a _ _ (Ideal.ofBits .f32 0x3F800000#32) (fun k => rfl) _ (fun k => rfl)).trans ?_
  pointwise []
  split_ifs <;> rfl

set_option maxHeartbeats 1600000 in
/-- At the loop's entry the rows are the initial ones. -/
theorem at_entry (m : (ℓ : Loc nD τ sig) → Buf (Elt Ideal) ℓ) (c : Dev nD)
    (ha : Args P X (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7))) :
    At P X (rows P X 0) ⟨0, by decide⟩ (entryContents preI m c) where
  ctr := ctr_entry m c
  xs t b k := by
    simp only [entryContents, afterL_cons, afterL_nil]
    after_reads_simp
    refine Eq.trans ?_ (ha.xs b t k)
    pointwise [id_eq]
  Ws k j := by
    refine Eq.trans (congrFun ?_ _) (ha.Ws k j)
    simp only [entryContents, afterL_cons, afterL_nil]
    after_reads_simp
    rfl
  bs j := by
    refine Eq.trans (congrFun ?_ _) (ha.bs j)
    simp only [entryContents, afterL_cons, afterL_nil]
    after_reads_simp
    rfl
  Wo k j := by
    refine Eq.trans (congrFun ?_ _) (ha.Wo k j)
    simp only [entryContents, afterL_cons, afterL_nil]
    after_reads_simp
    rfl
  bo j := by
    refine Eq.trans (congrFun ?_ _) (ha.bo j)
    simp only [entryContents, afterL_cons, afterL_nil]
    after_reads_simp
    rfl
  Wu k j := by
    refine Eq.trans (congrFun ?_ _) (ha.Wu k j)
    simp only [entryContents, afterL_cons, afterL_nil]
    after_reads_simp
    rfl
  bu j := by
    refine Eq.trans (congrFun ?_ _) (ha.bu j)
    simp only [entryContents, afterL_cons, afterL_nil]
    after_reads_simp
    rfl
  s b j := by
    simp only [entryContents, afterL_cons, afterL_nil]
    after_reads_simp
    pointwise [id_eq]
    rfl
  w b h a := by
    simp only [entryContents, afterL_cons, afterL_nil]
    after_reads_simp
    exact (congrFun (id_eq _) _).trans (onehot b h a)
  d b h a := by
    simp only [entryContents, afterL_cons, afterL_nil]
    after_reads_simp
    exact (congrFun (id_eq _) _).trans (onehot b h a)
  M b m a := by
    simp only [entryContents, afterL_cons, afterL_nil]
    after_reads_simp
    pointwise [id_eq]
    exact memInit_coe

/-- The reference's result: each output is the cell's, after the steps before it. -/
theorem result (m : (ℓ : Loc nD τ sig) → Buf (Elt Ideal) ℓ) (c : Dev nD)
    (ha : Args P X (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7))) (b : Fin 32) (t : Fin 512) (j : Fin 256) :
    (out_main_v9 (STEP^[512] (entryContents preI m c)) : FVec Ideal S32x512x256 .f32) (ix3 b t j) = outv P (X t b) (rows P X t.val b) j := by
  unfold out_main_v9
  pointwise [out_all (at_entry m c ha) 512 (le_refl _) t b j t.isLt]

end Cert.RMath
-- ==== Proof.Join.lean ====
module

public import proofs.«01_k».proof.Defs
public import proofs.«01_k».proof.Proof.KBlocks
public import proofs.«01_k».proof.Proof.RRun
public import proofs.«01_k».proof.Proof.Gen.Kernel

@[expose] public section

set_option maxRecDepth 16384

noncomputable section

open Idealize.ShloMosaic Idealize.ShloMosaic.TcCoe Idealize.SL.Sem

/-! The kernel's result and the reference's are the same array, from finite arguments. -/

namespace Cert.Join
open Cert.Cell

/-- What the precondition's program needs of its shapes. -/
theorem preFacts : Cert.Pre_finite_arguments.Facts where
  bcast_S_S32x512x258 := by decide
  bcast_S_S642x256 := by decide
  bcast_S_S642x424 := by decide
  bcast_S_S424 := by decide

/-- An extended real whose absolute value is below infinity is real. -/
theorem real_of_lt (x : EReal)
    (h : FloatOps.cmpf (F := Ideal) (φ := .f32) .olt (FloatOps.absf (F := Ideal) (φ := .f32) x) (Ideal.ofBits FTy.f32 2139095040#32) = 1#1) :
    ∃ r : ℝ, x = (r : EReal) := by
  have ht : Ideal.ofBits FTy.f32 2139095040#32 = (⊤ : EReal) := by
    simp [Ideal.ofBits, Ideal.ieee]
  rw [ht] at h
  induction x using EReal.rec with
  | coe r => exact ⟨r, rfl⟩
  | bot => exact absurd h (by simp [FloatOps.cmpf, FloatOps.absf, Ideal.cmp])
  | top => exact absurd h (by simp [FloatOps.cmpf, FloatOps.absf, Ideal.cmp])

/-- The precondition makes the inputs, the three weights and the update bias real. -/
theorem args (m : (ℓ : Loc Cert.KernelIdeal.nD Cert.KernelIdeal.τ Cert.KernelIdeal.sig) → Buf (Elt Ideal) ℓ)
    (h : Cert.Pre_KernelIdeal_finite_arguments (hPre_finite_arguments := preFacts) m) (c : Dev Cert.KernelIdeal.nD) :
    ∃ P X, Args P X (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  obtain ⟨h0, h2, h4, h6, h7⟩ := h c
  exact Args.of_finite (fun i => real_of_lt _ (congrFun h0 i)) (fun i => real_of_lt _ (congrFun h2 i))
    (fun i => real_of_lt _ (congrFun h4 i)) (fun i => real_of_lt _ (congrFun h6 i)) (fun i => real_of_lt _ (congrFun h7 i))

/-- From finite arguments the kernel and the reference end with the same result, entry by entry over the extended reals,
    and with their arguments unchanged. -/
theorem algebraic : Cert.algebraic_KernelIdeal_ReferenceIdeal_pre_finite_arguments (hKernelIdeal := Cert.KernelIdeal.Gen.facts)
    (hReferenceIdeal := Cert.ReferenceIdeal.Gen.facts) (hPre_finite_arguments := preFacts) := by
  intro m g m' g' hpre hagree
  refine ⟨fun c => Cert.KRun.res m c, (θ_run _ _ _).mono (fun r h c => ⟨h.1 c, h.2 c⟩) (Cert.KRun.run m g),
    (θ_run _ _ _).mono (fun r h c => ?_) (Cert.ReferenceIdeal.Value.run m' g')⟩
  refine ⟨(h c).1.trans ?_, (h c).2⟩
  obtain ⟨P, X, ha⟩ := args m hpre c
  obtain ⟨e0, _, e2, e3, e4, e5, e6, e7⟩ := hagree c
  have ha' : Args P X (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) := by
    rw [e0, e2, e3, e4, e5, e6, e7]
    exact ha
  have key : ∀ (x y : Vec Ideal ⟨3, ![32, 512, 256]⟩ .f32),
      (∀ (b : Fin 32) (t : Fin 512) (j : Fin 256), x (ix3 b t j) = y (ix3 b t j)) → x = y := fun x y hxy => by
    funext i
    have e : ix3 (n0 := 32) (n1 := 512) (n2 := 256) (i 0) (i 1) (i 2) = i := by
      funext a
      match a with
      | ⟨0, _⟩ => rfl
      | ⟨1, _⟩ => rfl
      | ⟨2, _⟩ => rfl
    rw [← e]
    exact hxy _ _ _
  exact key _ _ fun b t j => (Cert.RMath.result m' c ha' b t j).trans (Cert.KRun.result ha b t j).symm

end Cert.Join
-- ==== Proof.lean ====
module

public import proofs.«01_k».proof.Defs
public import proofs.«01_k».proof.Proof.Gen.Kernel.Frame
public import proofs.«01_k».proof.Proof.Join
public import Idealize.ShloMosaic.Lib.Quiescent
public import Idealize.ShloMosaic.Adequacy
public import Idealize.ShloMosaic.Init

@[expose] public section

noncomputable section

namespace Cert.Proof

open Idealize.ShloMosaic Idealize.SL.Sem

/-- Every launch of the reference terminates with its arguments unchanged and every counter zero. -/
theorem reference_frame : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run m ρ)

/-- Everything the certificate claims. -/
theorem claim : Cert.Claim :=
  ⟨Cert.Kernel.Gen.facts, Cert.KernelIdeal.Gen.facts, Cert.ReferenceIdeal.Gen.facts, Cert.Join.preFacts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    Cert.Join.algebraic⟩

end Cert.Proof

end
